-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre_finite [hPre_pre_finite : Cert.Pre_pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre_finite [hPre_pre_finite : Cert.Pre_pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_pre_finite [hKernelIdeal : Cert.KernelIdeal.Facts] [hPre_pre_finite : Cert.Pre_pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_pre_finite [hReferenceIdeal : Cert.ReferenceIdeal.Facts] [hPre_pre_finite : Cert.Pre_pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "h" .f32 0x3A7FC010#32 ((1 / 1025 : ℝ) : EReal)
  ∧ IdealRules.named_const.Statement Cert.KernelIdeal.κ "c0" .f32 0x40800002#32 ((4202501 / 1050625 : ℝ) : EReal)

def algebraic_KernelIdeal_ReferenceIdeal_pre_pre_finite [hKernelIdeal : Cert.KernelIdeal.Facts] [hReferenceIdeal : Cert.ReferenceIdeal.Facts] [hPre_pre_finite : Cert.Pre_pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v248) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_pre_finite : Cert.Pre_pre_finite.Facts),
    quiescent_Kernel (hKernel := hKernel)
    ∧ quiescent_KernelIdeal (hKernelIdeal := hKernelIdeal)
    ∧ quiescent_KernelIdeal_pre_pre_finite (hKernelIdeal := hKernelIdeal) (hPre_pre_finite := hPre_pre_finite)
    ∧ quiescent_ReferenceIdeal (hReferenceIdeal := hReferenceIdeal)
    ∧ quiescent_ReferenceIdeal_pre_pre_finite (hReferenceIdeal := hReferenceIdeal) (hPre_pre_finite := hPre_pre_finite)
    ∧ preserves_Kernel_KernelIdeal
    ∧ algebraic_KernelIdeal_ReferenceIdeal_pre_pre_finite (hKernelIdeal := hKernelIdeal) (hReferenceIdeal := hReferenceIdeal) (hPre_pre_finite := hPre_pre_finite)
-- ==== Pre_pre_finite.lean ====
abbrev S1x1x1024x1024 : Shape := ⟨4, ![1, 1, 1024, 1024]⟩
abbrev S_ : Shape := ⟨0, ![]⟩

class Facts : Prop where
  bcast_S_S1x1x1024x1024 : S_.BroadcastsInDim S1x1x1024x1024 (![] : Fin 0 → Fin S1x1x1024x1024.rank)

variable [Facts]

def fn {F : FTy → Type} [FloatOps F] (main_arg0 : FVec F S1x1x1024x1024 .f32) (main_arg1 : FVec F S1x1x1024x1024 .f32) (main_arg2 : FVec F S1x1x1024x1024 .f32) : IVec S1x1x1024x1024 1 :=
  let main_v0 : FVec F S1x1x1024x1024 .f32 := Host.absf main_arg0
  let main_cst : FVec F S_ .f32 := constant S_ .f32 0x7F800000#32
  let main_v1 : FVec F S1x1x1024x1024 .f32 := broadcastInDim S1x1x1024x1024 ![] bcast_S_S1x1x1024x1024 main_cst
  let main_v2 : IVec S1x1x1024x1024 1 := cmpf .olt main_v0 main_v1
  main_v2
-- ==== Kernel.lean ====
abbrev S1x1x1024x1024 : Shape := ⟨4, ![1, 1, 1024, 1024]⟩
abbrev S1024x1024 : Shape := ⟨2, ![1024, 1024]⟩
abbrev S1x1 : Shape := ⟨2, ![1, 1]⟩
abbrev S1x1024 : Shape := ⟨2, ![1, 1024]⟩
abbrev S1024x1 : Shape := ⟨2, ![1024, 1]⟩
abbrev S1023x1024 : Shape := ⟨2, ![1023, 1024]⟩
abbrev S1024x1023 : Shape := ⟨2, ![1024, 1023]⟩
abbrev S1x1024x1024 : Shape := ⟨3, ![1, 1024, 1024]⟩
abbrev S1 : Shape := ⟨1, ![1]⟩
abbrev S1x1x1 : Shape := ⟨3, ![1, 1, 1]⟩
abbrev S_ : Shape := ⟨0, ![]⟩

abbrev nBuf : Space → Nat
  | .hbm => 7
  | .vmem => 2
  | .smem => 1
  | _ => 0

abbrev bufTy : (tb : Table) → Fin (tcTables nBuf tb) → BufTy
  | .hbm, ⟨0, _⟩ => ⟨S1x1x1024x1024, .f32⟩
  | .hbm, ⟨1, _⟩ => ⟨S1x1x1024x1024, .f32⟩
  | .hbm, ⟨2, _⟩ => ⟨S1x1x1024x1024, .f32⟩
  | .hbm, ⟨3, _⟩ => ⟨S1024x1024, .f32⟩
  | .hbm, ⟨4, _⟩ => ⟨S1024x1024, .f32⟩
  | .hbm, ⟨5, _⟩ => ⟨S1x1, .f32⟩
  | .hbm, ⟨6, _⟩ => ⟨S_, .f32⟩
  | .local _ .vmem, ⟨0, _⟩ => ⟨S1024x1024, .f32⟩
  | .local _ .vmem, ⟨1, _⟩ => ⟨S1024x1024, .f32⟩
  | .local _ .smem, ⟨0, _⟩ => ⟨S1x1, .f32⟩
  | _, _ => ⟨S1x1x1024x1024, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "c0" => some ((4202501 / 1050625 : ℝ) : EReal)
  | "h" => some ((1 / 1025 : ℝ) : EReal)
  | _ => none
-- ==== ReferenceIdeal.lean ====
abbrev S1x1x1024x1024 : Shape := ⟨4, ![1, 1, 1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1048576 : Shape := ⟨1, ![1048576]⟩
abbrev S1026x1026 : Shape := ⟨2, ![1026, 1026]⟩

abbrev nBuf : Space → Nat
  | .hbm => 319
  | .vmem => 0
  | .smem => 0
  | _ => 0

abbrev hbmTy0_0 (i : Nat) : BufTy := match i % 128 with
  | 0 => ⟨S1x1x1024x1024, .f32⟩
  | 1 => ⟨S1x1x1024x1024, .f32⟩
  | 2 => ⟨S1x1x1024x1024, .f32⟩
  | 3 => ⟨S1024, .f32⟩
  | 4 => ⟨S_, .f32⟩
  | 5 => ⟨S1024, .f32⟩
  | 6 => ⟨S1024, .f32⟩
  | 7 => ⟨S_, .f32⟩
  | 8 => ⟨S_, .f32⟩
  | 9 => ⟨S_, .f32⟩
  | 10 => ⟨S1024, .f32⟩
  | 11 => ⟨S1024, .f32⟩
  | 12 => ⟨S_, .f32⟩
  | 13 => ⟨S1024, .f32⟩
  | 14 => ⟨S1024, .f32⟩
  | 15 => ⟨S1024, .f32⟩
  | 16 => ⟨S1024x1, .f32⟩
  | 17 => ⟨S1x1024, .f32⟩
  | 18 => ⟨S1024x1024, .f32⟩
  | 19 => ⟨S1024x1024, .f32⟩
  | 20 => ⟨S1024x1024, .f32⟩
  | 21 => ⟨S1024x1024, .f32⟩
  | 22 => ⟨S1024x1024, .f32⟩
  | 23 => ⟨S_, .f32⟩
  | 24 => ⟨S1024x1024, .f32⟩
  | 25 => ⟨S1024x1024, .f32⟩
  | 26 => ⟨S1048576, .f32⟩
  | 27 => ⟨S1048576, .f32⟩
  | 28 => ⟨S_, .f32⟩
  | 29 => ⟨S_, .f32⟩
  | 30 => ⟨S_, .f32⟩
  | 31 => ⟨S1024x1024, .f32⟩
  | 32 => ⟨S_, .i32⟩
  | 33 => ⟨S_, .f32⟩
  | 34 => ⟨S1026x1026, .f32⟩
  | 35 => ⟨S_, .f32⟩
  | 36 => ⟨S1024x1024, .f32⟩
  | 37 => ⟨S1024x1024, .f32⟩
  | 38 => ⟨S1024x1024, .f32⟩
  | 39 => ⟨S1024x1024, .f32⟩
  | 40 => ⟨S1024x1024, .f32⟩
  | 41 => ⟨S1024x1024, .f32⟩
  | 42 => ⟨S1024x1024, .f32⟩
  | 43 => ⟨S1024x1024, .f32⟩
  | 44 => ⟨S1024x1024, .f32⟩
  | 45 => ⟨S1024x1024, .f32⟩
  | 46 => ⟨S_, .f32⟩
  | 47 => ⟨S1024x1024, .f32⟩
  | 48 => ⟨S1024x1024, .f32⟩
  | 49 => ⟨S1024x1024, .f32⟩
  | 50 => ⟨S1048576, .f32⟩
  | 51 => ⟨S1048576, .f32⟩
  | 52 => ⟨S_, .f32⟩
  | 53 => ⟨S_, .f32⟩
  | 54 => ⟨S_, .f32⟩
  | 55 => ⟨S1024x1024, .f32⟩
  | 56 => ⟨S_, .i32⟩
  | 57 => ⟨S_, .f32⟩
  | 58 => ⟨S1026x1026, .f32⟩
  | 59 => ⟨S_, .f32⟩
  | 60 => ⟨S1024x1024, .f32⟩
  | 61 => ⟨S1024x1024, .f32⟩
  | 62 => ⟨S1024x1024, .f32⟩
  | 63 => ⟨S1024x1024, .f32⟩
  | 64 => ⟨S1024x1024, .f32⟩
  | 65 => ⟨S1024x1024, .f32⟩
  | 66 => ⟨S1024x1024, .f32⟩
  | 67 => ⟨S1024x1024, .f32⟩
  | 68 => ⟨S1024x1024, .f32⟩
  | 69 => ⟨S1024x1024, .f32⟩
  | 70 => ⟨S_, .f32⟩
  | 71 => ⟨S1024x1024, .f32⟩
  | 72 => ⟨S1024x1024, .f32⟩
  | 73 => ⟨S1024x1024, .f32⟩
  | 74 => ⟨S1048576, .f32⟩
  | 75 => ⟨S1048576, .f32⟩
  | 76 => ⟨S_, .f32⟩
  | 77 => ⟨S_, .f32⟩
  | 78 => ⟨S1048576, .f32⟩
  | 79 => ⟨S_, .f32⟩
  | 80 => ⟨S_, .f32⟩
  | 81 => ⟨S_, .f32⟩
  | 82 => ⟨S1048576, .f32⟩
  | 83 => ⟨S1048576, .f32⟩
  | 84 => ⟨S1048576, .f32⟩
  | 85 => ⟨S_, .f32⟩
  | 86 => ⟨S_, .f32⟩
  | 87 => ⟨S_, .f32⟩
  | 88 => ⟨S1024x1024, .f32⟩
  | 89 => ⟨S_, .i32⟩
  | 90 => ⟨S_, .f32⟩
  | 91 => ⟨S1026x1026, .f32⟩
  | 92 => ⟨S_, .f32⟩
  | 93 => ⟨S1024x1024, .f32⟩
  | 94 => ⟨S1024x1024, .f32⟩
  | 95 => ⟨S1024x1024, .f32⟩
  | 96 => ⟨S1024x1024, .f32⟩
  | 97 => ⟨S1024x1024, .f32⟩
  | 98 => ⟨S1024x1024, .f32⟩
  | 99 => ⟨S1024x1024, .f32⟩
  | 100 => ⟨S1024x1024, .f32⟩
  | 101 => ⟨S1024x1024, .f32⟩
  | 102 => ⟨S1024x1024, .f32⟩
  | 103 => ⟨S_, .f32⟩
  | 104 => ⟨S1024x1024, .f32⟩
  | 105 => ⟨S1024x1024, .f32⟩
  | 106 => ⟨S1024x1024, .f32⟩
  | 107 => ⟨S1048576, .f32⟩
  | 108 => ⟨S1048576, .f32⟩
  | 109 => ⟨S_, .f32⟩
  | 110 => ⟨S_, .f32⟩
  | 111 => ⟨S_, .f32⟩
  | 112 => ⟨S1024x1024, .f32⟩
  | 113 => ⟨S_, .i32⟩
  | 114 => ⟨S_, .f32⟩
  | 115 => ⟨S1026x1026, .f32⟩
  | 116 => ⟨S_, .f32⟩
  | 117 => ⟨S1024x1024, .f32⟩
  | 118 => ⟨S1024x1024, .f32⟩
  | 119 => ⟨S1024x1024, .f32⟩
  | 120 => ⟨S1024x1024, .f32⟩
  | 121 => ⟨S1024x1024, .f32⟩
  | 122 => ⟨S1024x1024, .f32⟩
  | 123 => ⟨S1024x1024, .f32⟩
  | 124 => ⟨S1024x1024, .f32⟩
  | 125 => ⟨S1024x1024, .f32⟩
  | 126 => ⟨S1024x1024, .f32⟩
  | 127 => ⟨S_, .f32⟩
  | _ => ⟨S1x1x1024x1024, .f32⟩

abbrev hbmTy0_1 (i : Nat) : BufTy := match i % 128 with
  | 0 => ⟨S1024x1024, .f32⟩
  | 1 => ⟨S1024x1024, .f32⟩
  | 2 => ⟨S1024x1024, .f32⟩
  | 3 => ⟨S1048576, .f32⟩
  | 4 => ⟨S1048576, .f32⟩
  | 5 => ⟨S_, .f32⟩
  | 6 => ⟨S_, .f32⟩
  | 7 => ⟨S1048576, .f32⟩
  | 8 => ⟨S_, .f32⟩
  | 9 => ⟨S_, .f32⟩
  | 10 => ⟨S_, .f32⟩
  | 11 => ⟨S1048576, .f32⟩
  | 12 => ⟨S1048576, .f32⟩
  | 13 => ⟨S1048576, .f32⟩
  | 14 => ⟨S_, .f32⟩
  | 15 => ⟨S_, .f32⟩
  | 16 => ⟨S_, .f32⟩
  | 17 => ⟨S1024x1024, .f32⟩
  | 18 => ⟨S_, .i32⟩
  | 19 => ⟨S_, .f32⟩
  | 20 => ⟨S1026x1026, .f32⟩
  | 21 => ⟨S_, .f32⟩
  | 22 => ⟨S1024x1024, .f32⟩
  | 23 => ⟨S1024x1024, .f32⟩
  | 24 => ⟨S1024x1024, .f32⟩
  | 25 => ⟨S1024x1024, .f32⟩
  | 26 => ⟨S1024x1024, .f32⟩
  | 27 => ⟨S1024x1024, .f32⟩
  | 28 => ⟨S1024x1024, .f32⟩
  | 29 => ⟨S1024x1024, .f32⟩
  | 30 => ⟨S1024x1024, .f32⟩
  | 31 => ⟨S1024x1024, .f32⟩
  | 32 => ⟨S_, .f32⟩
  | 33 => ⟨S1024x1024, .f32⟩
  | 34 => ⟨S1024x1024, .f32⟩
  | 35 => ⟨S1024x1024, .f32⟩
  | 36 => ⟨S1048576, .f32⟩
  | 37 => ⟨S1048576, .f32⟩
  | 38 => ⟨S_, .f32⟩
  | 39 => ⟨S_, .f32⟩
  | 40 => ⟨S_, .f32⟩
  | 41 => ⟨S1024x1024, .f32⟩
  | 42 => ⟨S_, .i32⟩
  | 43 => ⟨S_, .f32⟩
  | 44 => ⟨S1026x1026, .f32⟩
  | 45 => ⟨S_, .f32⟩
  | 46 => ⟨S1024x1024, .f32⟩
  | 47 => ⟨S1024x1024, .f32⟩
  | 48 => ⟨S1024x1024, .f32⟩
  | 49 => ⟨S1024x1024, .f32⟩
  | 50 => ⟨S1024x1024, .f32⟩
  | 51 => ⟨S1024x1024, .f32⟩
  | 52 => ⟨S1024x1024, .f32⟩
  | 53 => ⟨S1024x1024, .f32⟩
  | 54 => ⟨S1024x1024, .f32⟩
  | 55 => ⟨S1024x1024, .f32⟩
  | 56 => ⟨S_, .f32⟩
  | 57 => ⟨S1024x1024, .f32⟩
  | 58 => ⟨S1024x1024, .f32⟩
  | 59 => ⟨S1024x1024, .f32⟩
  | 60 => ⟨S1048576, .f32⟩
  | 61 => ⟨S1048576, .f32⟩
  | 62 => ⟨S_, .f32⟩
  | 63 => ⟨S_, .f32⟩
  | 64 => ⟨S1048576, .f32⟩
  | 65 => ⟨S_, .f32⟩
  | 66 => ⟨S_, .f32⟩
  | 67 => ⟨S_, .f32⟩
  | 68 => ⟨S1048576, .f32⟩
  | 69 => ⟨S1048576, .f32⟩
  | 70 => ⟨S1048576, .f32⟩
  | 71 => ⟨S_, .f32⟩
  | 72 => ⟨S_, .f32⟩
  | 73 => ⟨S_, .f32⟩
  | 74 => ⟨S1024x1024, .f32⟩
  | 75 => ⟨S_, .i32⟩
  | 76 => ⟨S_, .f32⟩
  | 77 => ⟨S1026x1026, .f32⟩
  | 78 => ⟨S_, .f32⟩
  | 79 => ⟨S1024x1024, .f32⟩
  | 80 => ⟨S1024x1024, .f32⟩
  | 81 => ⟨S1024x1024, .f32⟩
  | 82 => ⟨S1024x1024, .f32⟩
  | 83 => ⟨S1024x1024, .f32⟩
  | 84 => ⟨S1024x1024, .f32⟩
  | 85 => ⟨S1024x1024, .f32⟩
  | 86 => ⟨S1024x1024, .f32⟩
  | 87 => ⟨S1024x1024, .f32⟩
  | 88 => ⟨S1024x1024, .f32⟩
  | 89 => ⟨S_, .f32⟩
  | 90 => ⟨S1024x1024, .f32⟩
  | 91 => ⟨S1024x1024, .f32⟩
  | 92 => ⟨S1024x1024, .f32⟩
  | 93 => ⟨S1048576, .f32⟩
  | 94 => ⟨S1048576, .f32⟩
  | 95 => ⟨S_, .f32⟩
  | 96 => ⟨S_, .f32⟩
  | 97 => ⟨S_, .f32⟩
  | 98 => ⟨S1024x1024, .f32⟩
  | 99 => ⟨S_, .i32⟩
  | 100 => ⟨S_, .f32⟩
  | 101 => ⟨S1026x1026, .f32⟩
  | 102 => ⟨S_, .f32⟩
  | 103 => ⟨S1024x1024, .f32⟩
  | 104 => ⟨S1024x1024, .f32⟩
  | 105 => ⟨S1024x1024, .f32⟩
  | 106 => ⟨S1024x1024, .f32⟩
  | 107 => ⟨S1024x1024, .f32⟩
  | 108 => ⟨S1024x1024, .f32⟩
  | 109 => ⟨S1024x1024, .f32⟩
  | 110 => ⟨S1024x1024, .f32⟩
  | 111 => ⟨S1024x1024, .f32⟩
  | 112 => ⟨S1024x1024, .f32⟩
  | 113 => ⟨S_, .f32⟩
  | 114 => ⟨S1024x1024, .f32⟩
  | 115 => ⟨S1024x1024, .f32⟩
  | 116 => ⟨S1024x1024, .f32⟩
  | 117 => ⟨S1048576, .f32⟩
  | 118 => ⟨S1048576, .f32⟩
  | 119 => ⟨S_, .f32⟩
  | 120 => ⟨S_, .f32⟩
  | 121 => ⟨S1048576, .f32⟩
  | 122 => ⟨S_, .f32⟩
  | 123 => ⟨S_, .f32⟩
  | 124 => ⟨S_, .f32⟩
  | 125 => ⟨S1048576, .f32⟩
  | 126 => ⟨S1048576, .f32⟩
  | 127 => ⟨S1048576, .f32⟩
  | _ => ⟨S1x1x1024x1024, .f32⟩

abbrev hbmTy0_2 (i : Nat) : BufTy := match i % 128 with
  | 0 => ⟨S_, .f32⟩
  | 1 => ⟨S_, .f32⟩
  | 2 => ⟨S_, .f32⟩
  | 3 => ⟨S1024x1024, .f32⟩
  | 4 => ⟨S_, .i32⟩
  | 5 => ⟨S_, .f32⟩
  | 6 => ⟨S1026x1026, .f32⟩
  | 7 => ⟨S_, .f32⟩
  | 8 => ⟨S1024x1024, .f32⟩
  | 9 => ⟨S1024x1024, .f32⟩
  | 10 => ⟨S1024x1024, .f32⟩
  | 11 => ⟨S1024x1024, .f32⟩
  | 12 => ⟨S1024x1024, .f32⟩
  | 13 => ⟨S1024x1024, .f32⟩
  | 14 => ⟨S1024x1024, .f32⟩
  | 15 => ⟨S1024x1024, .f32⟩
  | 16 => ⟨S1024x1024, .f32⟩
  | 17 => ⟨S1024x1024, .f32⟩
  | 18 => ⟨S_, .f32⟩
  | 19 => ⟨S1024x1024, .f32⟩
  | 20 => ⟨S1024x1024, .f32⟩
  | 21 => ⟨S1024x1024, .f32⟩
  | 22 => ⟨S1048576, .f32⟩
  | 23 => ⟨S1048576, .f32⟩
  | 24 => ⟨S_, .f32⟩
  | 25 => ⟨S_, .f32⟩
  | 26 => ⟨S_, .f32⟩
  | 27 => ⟨S1024x1024, .f32⟩
  | 28 => ⟨S_, .i32⟩
  | 29 => ⟨S_, .f32⟩
  | 30 => ⟨S1026x1026, .f32⟩
  | 31 => ⟨S_, .f32⟩
  | 32 => ⟨S1024x1024, .f32⟩
  | 33 => ⟨S1024x1024, .f32⟩
  | 34 => ⟨S1024x1024, .f32⟩
  | 35 => ⟨S1024x1024, .f32⟩
  | 36 => ⟨S1024x1024, .f32⟩
  | 37 => ⟨S1024x1024, .f32⟩
  | 38 => ⟨S1024x1024, .f32⟩
  | 39 => ⟨S1024x1024, .f32⟩
  | 40 => ⟨S1024x1024, .f32⟩
  | 41 => ⟨S1024x1024, .f32⟩
  | 42 => ⟨S_, .f32⟩
  | 43 => ⟨S1024x1024, .f32⟩
  | 44 => ⟨S1024x1024, .f32⟩
  | 45 => ⟨S1024x1024, .f32⟩
  | 46 => ⟨S1048576, .f32⟩
  | 47 => ⟨S1048576, .f32⟩
  | 48 => ⟨S_, .f32⟩
  | 49 => ⟨S_, .f32⟩
  | 50 => ⟨S1048576, .f32⟩
  | 51 => ⟨S_, .f32⟩
  | 52 => ⟨S_, .f32⟩
  | 53 => ⟨S_, .f32⟩
  | 54 => ⟨S1048576, .f32⟩
  | 55 => ⟨S1048576, .f32⟩
  | 56 => ⟨S1048576, .f32⟩
  | 57 => ⟨S1048576, .f32⟩
  | 58 => ⟨S1048576, .f32⟩
  | 59 => ⟨S_, .f32⟩
  | 60 => ⟨S_, .f32⟩
  | 61 => ⟨S_, .f32⟩
  | 62 => ⟨S_, .f32⟩
  | _ => ⟨S1x1x1024x1024, .f32⟩

abbrev hbmTy (i : Nat) : BufTy := match i / 128 with
  | 0 => hbmTy0_0 i
  | 1 => hbmTy0_1 i
  | 2 => hbmTy0_2 i
  | _ => ⟨S1x1x1024x1024, .f32⟩

abbrev bufTy : (tb : Table) → Fin (tcTables nBuf tb) → BufTy
  | .hbm, ⟨i, _⟩ => hbmTy i
  | _, _ => ⟨S1x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_call0_v0 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_c_9 : Ref sig .tc := ⟨.hbm, 56, rfl⟩
abbrev main_call1_v0 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_11 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_c_15 : Ref sig .tc := ⟨.hbm, 89, rfl⟩
abbrev main_call2_v0 : Ref sig .tc := ⟨.hbm, 90, rfl⟩
abbrev main_v67 : Ref sig .tc := ⟨.hbm, 91, rfl⟩
abbrev main_cst_16 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_17 : Ref sig .tc := ⟨.hbm, 109, rfl⟩
abbrev main_cst_18 : Ref sig .tc := ⟨.hbm, 110, rfl⟩
abbrev main_v84 : Ref sig .tc := ⟨.hbm, 111, rfl⟩
abbrev main_v85 : Ref sig .tc := ⟨.hbm, 112, rfl⟩
abbrev main_c_19 : Ref sig .tc := ⟨.hbm, 113, rfl⟩
abbrev main_call3_v0 : Ref sig .tc := ⟨.hbm, 114, rfl⟩
abbrev main_v86 : Ref sig .tc := ⟨.hbm, 115, rfl⟩
abbrev main_cst_20 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_21 : Ref sig .tc := ⟨.hbm, 133, rfl⟩
abbrev main_v103 : Ref sig .tc := ⟨.hbm, 134, rfl⟩
abbrev main_v104 : Ref sig .tc := ⟨.hbm, 135, rfl⟩
abbrev main_cst_22 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_cst_23 : Ref sig .tc := ⟨.hbm, 142, rfl⟩
abbrev main_cst_24 : Ref sig .tc := ⟨.hbm, 143, rfl⟩
abbrev main_v110 : Ref sig .tc := ⟨.hbm, 144, rfl⟩
abbrev main_v111 : Ref sig .tc := ⟨.hbm, 145, rfl⟩
abbrev main_c_25 : Ref sig .tc := ⟨.hbm, 146, rfl⟩
abbrev main_call4_v0 : Ref sig .tc := ⟨.hbm, 147, rfl⟩
abbrev main_v112 : Ref sig .tc := ⟨.hbm, 148, rfl⟩
abbrev main_cst_26 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_cst_27 : Ref sig .tc := ⟨.hbm, 166, rfl⟩
abbrev main_cst_28 : Ref sig .tc := ⟨.hbm, 167, rfl⟩
abbrev main_v129 : Ref sig .tc := ⟨.hbm, 168, rfl⟩
abbrev main_v130 : Ref sig .tc := ⟨.hbm, 169, rfl⟩
abbrev main_c_29 : Ref sig .tc := ⟨.hbm, 170, rfl⟩
abbrev main_call5_v0 : Ref sig .tc := ⟨.hbm, 171, rfl⟩
abbrev main_v131 : Ref sig .tc := ⟨.hbm, 172, rfl⟩
abbrev main_cst_30 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_cst_31 : Ref sig .tc := ⟨.hbm, 190, rfl⟩
abbrev main_v148 : Ref sig .tc := ⟨.hbm, 191, rfl⟩
abbrev main_v149 : Ref sig .tc := ⟨.hbm, 192, rfl⟩
abbrev main_cst_32 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_cst_33 : Ref sig .tc := ⟨.hbm, 199, rfl⟩
abbrev main_cst_34 : Ref sig .tc := ⟨.hbm, 200, rfl⟩
abbrev main_v155 : Ref sig .tc := ⟨.hbm, 201, rfl⟩
abbrev main_v156 : Ref sig .tc := ⟨.hbm, 202, rfl⟩
abbrev main_c_35 : Ref sig .tc := ⟨.hbm, 203, rfl⟩
abbrev main_call6_v0 : Ref sig .tc := ⟨.hbm, 204, rfl⟩
abbrev main_v157 : Ref sig .tc := ⟨.hbm, 205, rfl⟩
abbrev main_cst_36 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_cst_37 : Ref sig .tc := ⟨.hbm, 223, rfl⟩
abbrev main_cst_38 : Ref sig .tc := ⟨.hbm, 224, rfl⟩
abbrev main_v174 : Ref sig .tc := ⟨.hbm, 225, rfl⟩
abbrev main_v175 : Ref sig .tc := ⟨.hbm, 226, rfl⟩
abbrev main_c_39 : Ref sig .tc := ⟨.hbm, 227, rfl⟩
abbrev main_call7_v0 : Ref sig .tc := ⟨.hbm, 228, rfl⟩
abbrev main_v176 : Ref sig .tc := ⟨.hbm, 229, rfl⟩
abbrev main_cst_40 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_cst_41 : Ref sig .tc := ⟨.hbm, 247, rfl⟩
abbrev main_v193 : Ref sig .tc := ⟨.hbm, 248, rfl⟩
abbrev main_v194 : Ref sig .tc := ⟨.hbm, 249, rfl⟩
abbrev main_cst_42 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_cst_43 : Ref sig .tc := ⟨.hbm, 256, rfl⟩
abbrev main_cst_44 : Ref sig .tc := ⟨.hbm, 257, rfl⟩
abbrev main_v200 : Ref sig .tc := ⟨.hbm, 258, rfl⟩
abbrev main_v201 : Ref sig .tc := ⟨.hbm, 259, rfl⟩
abbrev main_c_45 : Ref sig .tc := ⟨.hbm, 260, rfl⟩
abbrev main_call8_v0 : Ref sig .tc := ⟨.hbm, 261, rfl⟩
abbrev main_v202 : Ref sig .tc := ⟨.hbm, 262, rfl⟩
abbrev main_cst_46 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_cst_47 : Ref sig .tc := ⟨.hbm, 280, rfl⟩
abbrev main_cst_48 : Ref sig .tc := ⟨.hbm, 281, rfl⟩
abbrev main_v219 : Ref sig .tc := ⟨.hbm, 282, rfl⟩
abbrev main_v220 : Ref sig .tc := ⟨.hbm, 283, rfl⟩
abbrev main_c_49 : Ref sig .tc := ⟨.hbm, 284, rfl⟩
abbrev main_call9_v0 : Ref sig .tc := ⟨.hbm, 285, rfl⟩
abbrev main_v221 : Ref sig .tc := ⟨.hbm, 286, rfl⟩
abbrev main_cst_50 : Ref sig .tc := ⟨.hbm, 287, rfl⟩
abbrev main_v222 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩
abbrev main_v226 : Ref sig .tc := ⟨.hbm, 292, rfl⟩
abbrev main_v227 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_v232 : Ref sig .tc := ⟨.hbm, 298, rfl⟩
abbrev main_v233 : Ref sig .tc := ⟨.hbm, 299, rfl⟩
abbrev main_v234 : Ref sig .tc := ⟨.hbm, 300, rfl⟩
abbrev main_v235 : Ref sig .tc := ⟨.hbm, 301, rfl⟩
abbrev main_v236 : Ref sig .tc := ⟨.hbm, 302, rfl⟩
abbrev main_v237 : Ref sig .tc := ⟨.hbm, 303, rfl⟩
abbrev main_cst_51 : Ref sig .tc := ⟨.hbm, 304, rfl⟩
abbrev main_v238 : Ref sig .tc := ⟨.hbm, 305, rfl⟩
abbrev main_v239 : Ref sig .tc := ⟨.hbm, 306, rfl⟩
abbrev main_cst_52 : Ref sig .tc := ⟨.hbm, 307, rfl⟩
abbrev main_v240 : Ref sig .tc := ⟨.hbm, 308, rfl⟩
abbrev main_v241 : Ref sig .tc := ⟨.hbm, 309, rfl⟩
abbrev main_v242 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_v246 : Ref sig .tc := ⟨.hbm, 314, rfl⟩
abbrev main_cst_53 : Ref sig .tc := ⟨.hbm, 315, rfl⟩
abbrev main_v247 : Ref sig .tc := ⟨.hbm, 316, rfl⟩
abbrev main_cst_54 : Ref sig .tc := ⟨.hbm, 317, rfl⟩
abbrev main_v248 : Ref sig .tc := ⟨.hbm, 318, rfl⟩

abbrev nD : Nat := 1
abbrev τ : Topo := Topo.v7x

variable {F : FTy → Type} [FloatOps F]
-- ==== Proof.Grid.lean ====
/- Squares of 1024 by 1024 values, the five-point operator of the problem in its three spellings (the kernel's, the
   reference's, and over the reals), and one step of steepest descent in the kernel's and in the reference's form. -/
module

public import Idealize.ShloMosaic.PureOps.Ideal

@[expose] public section

noncomputable section

namespace Cert.Descent

open Idealize.ShloMosaic

/-- A square of values: row, then column. -/
abbrev Grid (α : Type) := Fin 1024 → Fin 1024 → α

section Neighbours

variable {α : Type} [Zero α]

/-- A line moved one place on: place `i` holds the value before it, and the first place zero. -/
def before (f : Fin 1024 → α) : Fin 1024 → α := fun i => if h : i.val = 0 then 0 else f ⟨i.val - 1, by omega⟩

/-- A line moved one place back: place `i` holds the value after it, and the last place zero. -/
def after (f : Fin 1024 → α) : Fin 1024 → α := fun i => if h : i.val + 1 < 1024 then f ⟨i.val + 1, h⟩ else 0

/-- The value one row above, zero outside the square. -/
def north (a : Grid α) : Grid α := fun i j => before (fun k => a k j) i
/-- The value one row below, zero outside the square. -/
def south (a : Grid α) : Grid α := fun i j => after (fun k => a k j) i
/-- The value one column to the left, zero outside the square. -/
def west (a : Grid α) : Grid α := fun i j => before (a i) j
/-- The value one column to the right, zero outside the square. -/
def east (a : Grid α) : Grid α := fun i j => after (a i) j

end Neighbours

/-- `c` times the middle value less its four neighbours. -/
def cross (c : EReal) (a : Grid EReal) : Grid EReal :=
  fun i j => c * a i j - north a i j - south a i j - west a i j - east a i j

/-- The operator as the kernel computes it: `((4 + h²) a - neighbours) · (1/h²)`. -/
def kerOp (a : Grid EReal) : Grid EReal :=
  fun i j => cross ((4202501 / 1050625 : ℝ) : EReal) a i j * ((1050625 : ℝ) : EReal)

/-- The operator as the reference computes it: `(4 a - neighbours) / (h·h) + a`. -/
def refOp (a : Grid EReal) : Grid EReal :=
  fun i j => Ideal.div (cross ((4 : ℝ) : EReal) a i j) (((1 / 1025 : ℝ) : EReal) * ((1 / 1025 : ℝ) : EReal)) + a i j

/-- The operator over the reals. -/
def realOp (a : Grid ℝ) : Grid ℝ :=
  fun i j => (4202501 / 1050625 * a i j - north a i j - south a i j - west a i j - east a i j) * 1050625

/-- The sum of all values. -/
def total (a : Grid EReal) : EReal := ∑ i, ∑ j, a i j

/-- The step length of steepest descent along `r` for the operator's image `w` of `r`: `(r·r) / (r·w)`. -/
def rate (r w : Grid EReal) : EReal :=
  Ideal.div (total fun i j => r i j * r i j) (total fun i j => r i j * w i j)

/-- The kernel's next residual. -/
def kerR (r : Grid EReal) : Grid EReal := fun i j => r i j - rate r (kerOp r) * kerOp r i j
/-- The kernel's next distance from the starting point. -/
def kerD (d r : Grid EReal) : Grid EReal := fun i j => d i j + rate r (kerOp r) * r i j
/-- The kernel's first residual. -/
def kerR0 (u b : Grid EReal) : Grid EReal := fun i j => b i j - kerOp u i j

/-- The reference's residual at `x`. -/
def refR (b x : Grid EReal) : Grid EReal := fun i j => b i j - refOp x i j
/-- The reference's next point. -/
def refX (b x : Grid EReal) : Grid EReal :=
  fun i j => x i j + rate (refR b x) (refOp (refR b x)) * refR b x i j

/-- The mean of the squares. -/
def meanSq (a : Grid EReal) : EReal := Ideal.div (total fun i j => a i j * a i j) ((1048576 : ℝ) : EReal)

/-- The kernel's distance after five steps from `u` for the right-hand side `b`. -/
def kerD5 (u b : Grid EReal) : Grid EReal :=
  let r0 := kerR0 u b
  let r1 := kerR r0
  let r2 := kerR r1
  let r3 := kerR r2
  let r4 := kerR r3
  kerD (kerD (kerD (kerD (kerD (fun _ _ => 0) r0) r1) r2) r3) r4

/-- The reference's point after five steps from `u`. -/
def refX5 (u b : Grid EReal) : Grid EReal := refX b (refX b (refX b (refX b (refX b u))))

/-- The bump `p(i) p(j)` with `p(i) = x (1 - x)` at `x = (i + 1) h`: one coordinate's factor. -/
def bump (i : Fin 1024) : EReal :=
  ((((i.val : ℝ) + 1) * (1 / 1025) * (1 - ((i.val : ℝ) + 1) * (1 / 1025)) : ℝ) : EReal)

/-- The starting point. -/
def start (p : Grid EReal) : Grid EReal := fun i j => p i j * (bump i * bump j)

/-- The kernel's loss. -/
def kerLoss (p f : Grid EReal) : EReal := meanSq (kerD5 (start p) f)
/-- The reference's loss. -/
def refLoss (p f : Grid EReal) : EReal := meanSq fun i j => start p i j - refX5 (start p) f i j

end Cert.Descent

end
-- ==== Proof.Energy.lean ====
/- Over the reals the operator is linear and at least the identity: the sum of `a · (A a)` is at least the sum of
   `a · a`, since the product of a square with any of its four shifts sums to at most the sum of squares. -/
module

public import proofs.«01_k».proof.Proof.Grid

@[expose] public section

noncomputable section

namespace Cert.Descent

/-- The first place of a line moved on is zero. -/
theorem before_zero (f : Fin 1024 → ℝ) : before f (0 : Fin (1023 + 1)) = 0 := by simp [before]

/-- A later place of a line moved on holds the value before it. -/
theorem before_succ (f : Fin 1024 → ℝ) (k : Fin 1023) : before f (k.succ : Fin (1023 + 1)) = f (k.castSucc : Fin (1023 + 1)) := by
  unfold before
  rw [dif_neg (by simp)]
  rfl

/-- The last place of a line moved back is zero. -/
theorem after_last (f : Fin 1024 → ℝ) : after f (Fin.last 1023) = 0 := by simp [after]

/-- An earlier place of a line moved back holds the value after it. -/
theorem after_castSucc (f : Fin 1024 → ℝ) (k : Fin 1023) : after f (k.castSucc : Fin (1023 + 1)) = f (k.succ : Fin (1023 + 1)) := by
  unfold after
  rw [dif_pos (by have := k.isLt; simp only [Fin.val_castSucc]; omega)]
  rfl

/-- Neighbouring products sum to at most the sum of squares. -/
theorem sum_succ_mul_le (f : Fin (1023 + 1) → ℝ) : ∑ k : Fin 1023, f k.succ * f k.castSucc ≤ ∑ i, f i * f i := by
  have h1 : ∑ k : Fin 1023, f k.succ * f k.castSucc
      ≤ ∑ k : Fin 1023, (f k.succ * f k.succ / 2 + f k.castSucc * f k.castSucc / 2) :=
    Finset.sum_le_sum fun k _ => by nlinarith [mul_self_nonneg (f k.succ - f k.castSucc)]
  rw [Finset.sum_add_distrib, ← Finset.sum_div, ← Finset.sum_div] at h1
  have h2 := Fin.sum_univ_succ fun i => f i * f i
  have h3 := Fin.sum_univ_castSucc fun i => f i * f i
  have h4 := mul_self_nonneg (f 0)
  have h5 := mul_self_nonneg (f (Fin.last 1023))
  linarith

/-- A line times itself moved on sums to at most its sum of squares. -/
theorem sum_mul_before_le (f : Fin 1024 → ℝ) : ∑ i, f i * before f i ≤ ∑ i, f i * f i := by
  have h := Fin.sum_univ_succ (n := 1023) fun i => f i * before f i
  simp only [before_zero, before_succ, mul_zero, zero_add] at h
  rw [h]
  exact sum_succ_mul_le f

/-- A line times itself moved back sums to at most its sum of squares. -/
theorem sum_mul_after_le (f : Fin 1024 → ℝ) : ∑ i, f i * after f i ≤ ∑ i, f i * f i := by
  have h := Fin.sum_univ_castSucc (n := 1023) fun i => f i * after f i
  simp only [after_last, after_castSucc, mul_zero, add_zero] at h
  rw [h]
  simp only [mul_comm (f (Fin.castSucc _))]
  exact sum_succ_mul_le f

/-- The sum of `a · (A a)` is at least the sum of `a · a`. -/
theorem sum_sq_le_energy (a : Grid ℝ) : ∑ i, ∑ j, a i j * a i j ≤ ∑ i, ∑ j, a i j * realOp a i j := by
  have hw : ∑ i, ∑ j, a i j * west a i j ≤ ∑ i, ∑ j, a i j * a i j :=
    Finset.sum_le_sum fun i _ => sum_mul_before_le (a i)
  have he : ∑ i, ∑ j, a i j * east a i j ≤ ∑ i, ∑ j, a i j * a i j :=
    Finset.sum_le_sum fun i _ => sum_mul_after_le (a i)
  have hn : ∑ i, ∑ j, a i j * north a i j ≤ ∑ i, ∑ j, a i j * a i j := by
    rw [Finset.sum_comm, Finset.sum_comm (f := fun i j => a i j * a i j)]
    exact Finset.sum_le_sum fun j _ => sum_mul_before_le fun k => a k j
  have hs : ∑ i, ∑ j, a i j * south a i j ≤ ∑ i, ∑ j, a i j * a i j := by
    rw [Finset.sum_comm, Finset.sum_comm (f := fun i j => a i j * a i j)]
    exact Finset.sum_le_sum fun j _ => sum_mul_after_le fun k => a k j
  have hsum : ∑ i, ∑ j, a i j * realOp a i j
      = 4202501 * (∑ i, ∑ j, a i j * a i j) - 1050625 * (∑ i, ∑ j, a i j * north a i j)
        - 1050625 * (∑ i, ∑ j, a i j * south a i j) - 1050625 * (∑ i, ∑ j, a i j * west a i j)
        - 1050625 * (∑ i, ∑ j, a i j * east a i j) := by
    simp only [Finset.mul_sum, ← Finset.sum_sub_distrib]
    refine Finset.sum_congr rfl fun i _ => Finset.sum_congr rfl fun j _ => ?_
    unfold realOp
    ring
  rw [hsum]
  linarith

/-- The operator of a square whose every value is zero is zero. -/
theorem realOp_zero (a : Grid ℝ) (h : ∀ i j, a i j = 0) (i j : Fin 1024) : realOp a i j = 0 := by
  simp [realOp, north, south, west, east, before, after, h]

/-- The operator is linear. -/
theorem realOp_add_smul (a r : Grid ℝ) (t : ℝ) (i j : Fin 1024) :
    realOp (fun i j => a i j + t * r i j) i j = realOp a i j + t * realOp r i j := by
  unfold realOp north south west east before after
  split_ifs <;> ring

/-- A square whose energy vanishes is zero. -/
theorem eq_zero_of_energy (a : Grid ℝ) (h : ∑ i, ∑ j, a i j * realOp a i j = 0) (i j : Fin 1024) : a i j = 0 := by
  have h1 := sum_sq_le_energy a
  rw [h] at h1
  have h0 : ∀ i, 0 ≤ ∑ j, a i j * a i j := fun i => Finset.sum_nonneg fun j _ => mul_self_nonneg _
  have h2 : ∑ i, ∑ j, a i j * a i j = 0 := le_antisymm h1 (Finset.sum_nonneg fun i _ => h0 i)
  have h3 := (Finset.sum_eq_zero_iff_of_nonneg fun i _ => h0 i).1 h2 i (Finset.mem_univ i)
  have h4 := (Finset.sum_eq_zero_iff_of_nonneg fun j _ => mul_self_nonneg (a i j)).1 h3 j (Finset.mem_univ j)
  exact mul_self_eq_zero.1 h4

end Cert.Descent

end
-- ==== Proof.Infinite.lean ====
/- Extended reals that are not finite: a difference, a product with a nonzero real, a product of two, and a sum with
   one such term are again infinite, and a quotient by one is zero. -/
module

public import proofs.«01_k».proof.Proof.Grid

@[expose] public section

noncomputable section

namespace Cert.Descent

open Idealize.ShloMosaic

/-- An extended real that is not a real number. -/
def Inf (x : EReal) : Prop := x = ⊤ ∨ x = ⊥

theorem inf_or_coe (x : EReal) : Inf x ∨ ∃ r : ℝ, x = (r : EReal) := by
  induction x with
  | bot => exact .inl (.inr rfl)
  | coe r => exact .inr ⟨r, rfl⟩
  | top => exact .inl (.inl rfl)

theorem Inf.add {x : EReal} (h : Inf x) (y : EReal) : Inf (x + y) := by
  rcases h with rfl | rfl
  · induction y with
    | bot => exact .inr (EReal.add_bot _)
    | coe r => exact .inl (EReal.top_add_coe r)
    | top => exact .inl EReal.top_add_top
  · exact .inr (EReal.bot_add _)

theorem Inf.sub {x : EReal} (h : Inf x) (y : EReal) : Inf (x - y) := by
  rw [sub_eq_add_neg]; exact h.add _

theorem Inf.mul {x y : EReal} (h : Inf x) (h' : Inf y) : Inf (x * y) := by
  rcases h with rfl | rfl <;> rcases h' with rfl | rfl <;> simp [Inf]

theorem Inf.mul_pos {x : EReal} (h : Inf x) {c : ℝ} (hc : 0 < c) : Inf (x * (c : EReal)) := by
  rcases h with rfl | rfl
  · exact .inl (EReal.top_mul_coe_of_pos hc)
  · exact .inr (EReal.bot_mul_coe_of_pos hc)

theorem Inf.pos_mul {x : EReal} (h : Inf x) {c : ℝ} (hc : 0 < c) : Inf ((c : EReal) * x) := by
  rw [mul_comm]; exact h.mul_pos hc

theorem Inf.sum {ι : Type} [DecidableEq ι] {s : Finset ι} {f : ι → EReal} {i : ι} (hi : i ∈ s) (h : Inf (f i)) :
    Inf (∑ k ∈ s, f k) := by
  rw [← Finset.add_sum_erase s f hi]; exact h.add _

theorem Inf.total {a : Grid EReal} {i j : Fin 1024} (h : Inf (a i j)) : Inf (total a) :=
  Inf.sum (Finset.mem_univ i) (Inf.sum (f := fun j => a i j) (Finset.mem_univ j) h)

theorem Inf.div {y : EReal} (h : Inf y) (x : EReal) : Ideal.div x y = 0 := by
  unfold Ideal.div
  rcases h with rfl | rfl
  · rw [if_neg (by simp), EReal.inv_top, mul_zero]
  · rw [if_neg (by simp), EReal.inv_bot, mul_zero]

/-- The five-point difference is infinite where the middle value is. -/
theorem Inf.cross {a : Grid EReal} {i j : Fin 1024} (h : Inf (a i j)) {c : ℝ} (hc : 0 < c) :
    Inf (Descent.cross (c : EReal) a i j) :=
  ((((h.pos_mul hc).sub _).sub _).sub _).sub _

theorem Inf.kerOp {a : Grid EReal} {i j : Fin 1024} (h : Inf (a i j)) : Inf (Descent.kerOp a i j) :=
  (h.cross (by norm_num)).mul_pos (by norm_num)

/-- The square of the spacing is one real number. -/
theorem h_sq : ((1 / 1025 : ℝ) : EReal) * ((1 / 1025 : ℝ) : EReal) = ((1 / 1050625 : ℝ) : EReal) := by
  rw [← EReal.coe_mul]; norm_num

theorem Inf.refOp {a : Grid EReal} {i j : Fin 1024} (h : Inf (a i j)) : Inf (Descent.refOp a i j) := by
  unfold Descent.refOp
  rw [h_sq, Ideal.div_coe (by norm_num)]
  exact ((h.cross (by norm_num)).mul_pos (by norm_num)).add _

/-- The step length is zero when the direction and its image are infinite at one place. -/
theorem rate_eq_zero {r w : Grid EReal} {i j : Fin 1024} (h : Inf (r i j)) (h' : Inf (w i j)) : rate r w = 0 :=
  Inf.div (Inf.total (a := fun i j => r i j * w i j) (h.mul h')) _

end Cert.Descent

end
-- ==== Proof.Finite.lean ====
/- Squares of real numbers: both spellings of the operator, the sums and the step lengths are those of the reals. -/
module

public import proofs.«01_k».proof.Proof.Energy
public import proofs.«01_k».proof.Proof.Infinite

@[expose] public section

noncomputable section

namespace Cert.Descent

open Idealize.ShloMosaic

/-- A square of reals among the extended reals. -/
def up (a : Grid ℝ) : Grid EReal := fun i j => (a i j : EReal)

/-- A square without infinite values is a square of reals. -/
theorem exists_up (a : Grid EReal) (h : ∀ i j, ¬ Inf (a i j)) : ∃ x : Grid ℝ, a = up x := by
  choose x hx using fun i j => (inf_or_coe (a i j)).resolve_left (h i j)
  exact ⟨x, funext fun i => funext fun j => hx i j⟩

theorem up_inj {a b : Grid ℝ} (h : up a = up b) : a = b :=
  funext fun i => funext fun j => EReal.coe_injective (congrFun (congrFun h i) j)

theorem before_coe (f : Fin 1024 → ℝ) (i : Fin 1024) : before (fun k => (f k : EReal)) i = ((before f i : ℝ) : EReal) := by
  unfold before; split_ifs <;> rfl

theorem after_coe (f : Fin 1024 → ℝ) (i : Fin 1024) : after (fun k => (f k : EReal)) i = ((after f i : ℝ) : EReal) := by
  unfold after; split_ifs <;> rfl

theorem cross_up (c : ℝ) (a : Grid ℝ) (i j : Fin 1024) :
    cross (c : EReal) (up a) i j = ((c * a i j - north a i j - south a i j - west a i j - east a i j : ℝ) : EReal) := by
  have hn : north (up a) i j = ((north a i j : ℝ) : EReal) := before_coe _ i
  have hs : south (up a) i j = ((south a i j : ℝ) : EReal) := after_coe _ i
  have hw : west (up a) i j = ((west a i j : ℝ) : EReal) := before_coe _ j
  have he : east (up a) i j = ((east a i j : ℝ) : EReal) := after_coe _ j
  unfold cross
  rw [hn, hs, hw, he]
  simp only [up, EReal.coe_sub, EReal.coe_mul]

theorem kerOp_up (a : Grid ℝ) : kerOp (up a) = up (realOp a) := by
  funext i j
  unfold kerOp
  rw [cross_up, ← EReal.coe_mul]
  rfl

theorem refOp_up (a : Grid ℝ) : refOp (up a) = up (realOp a) := by
  funext i j
  unfold refOp
  rw [h_sq, Ideal.div_coe (by norm_num), cross_up]
  show _ + ((a i j : ℝ) : EReal) = ((realOp a i j : ℝ) : EReal)
  rw [← EReal.coe_mul, ← EReal.coe_add]
  congr 1
  unfold realOp
  ring

theorem sum_coe {ι : Type} (s : Finset ι) (f : ι → ℝ) : ∑ k ∈ s, (f k : EReal) = ((∑ k ∈ s, f k : ℝ) : EReal) := by
  classical
  induction s using Finset.induction_on with
  | empty => simp
  | insert k s hk ih => rw [Finset.sum_insert hk, Finset.sum_insert hk, ih, EReal.coe_add]

theorem total_coe (a : Grid ℝ) : total (fun i j => (a i j : EReal)) = ((∑ i, ∑ j, a i j : ℝ) : EReal) := by
  unfold total
  simp only [sum_coe]

/-- The step length along a square of reals. -/
theorem rate_up (r w : Grid ℝ) :
    rate (up r) (up w) = Ideal.div ((∑ i, ∑ j, r i j * r i j : ℝ) : EReal) ((∑ i, ∑ j, r i j * w i j : ℝ) : EReal) := by
  unfold rate
  rw [← total_coe, ← total_coe]
  simp only [up, EReal.coe_mul]

/-- Along a nonzero direction the step length is a real number. -/
theorem rate_real (r : Grid ℝ) (h : ¬ ∀ i j, r i j = 0) : ∃ t : ℝ, rate (up r) (up (realOp r)) = (t : EReal) := by
  rw [rate_up, Ideal.div_coe (fun h0 => h (eq_zero_of_energy r h0)), ← EReal.coe_mul]
  exact ⟨_, rfl⟩

end Cert.Descent

end
-- ==== Proof.Equation.lean ====
/- The equation: for real starting values the kernel's recurrence and the reference's give one loss. Either every value
   of the right-hand side is real, and the kernel's residual is the reference's at every step while its distance is the
   reference's point less the start; or one is infinite, and every step length on both sides is zero. -/
module

public import proofs.«01_k».proof.Proof.Finite

@[expose] public section

noncomputable section

namespace Cert.Descent

open Idealize.ShloMosaic

/-- What holds of the kernel's residual `r` and distance `d` and the reference's point `x` before each step. -/
def Tied (υ : Grid ℝ) (b r d x : Grid EReal) : Prop :=
  (∃ β ρ δ : Grid ℝ, b = up β ∧ r = up ρ ∧ d = up δ ∧ x = up (fun i j => υ i j + δ i j) ∧
    ∀ i j, ρ i j = β i j - realOp (fun i j => υ i j + δ i j) i j) ∨
  (d = (fun _ _ => 0) ∧ x = up υ ∧ r = refR b (up υ) ∧ ∃ i j, Inf (r i j))

/-- It holds at the start. -/
theorem tied_start (υ : Grid ℝ) (b : Grid EReal) : Tied υ b (kerR0 (up υ) b) (fun _ _ => 0) (up υ) := by
  by_cases h : ∀ i j, ¬ Inf (b i j)
  · obtain ⟨β, rfl⟩ := exists_up b h
    refine .inl ⟨β, fun i j => β i j - realOp υ i j, fun _ _ => 0, rfl, ?_, rfl, ?_, ?_⟩
    · funext i j
      unfold kerR0
      rw [kerOp_up]
      simp only [up, EReal.coe_sub]
    · simp
    · simp
  · push Not at h
    obtain ⟨i, j, h⟩ := h
    refine .inr ⟨rfl, rfl, ?_, i, j, h.sub _⟩
    funext i j
    unfold kerR0 refR
    rw [kerOp_up, refOp_up]

/-- The reference's residual of real data. -/
theorem refR_up (β x : Grid ℝ) : refR (up β) (up x) = up (fun i j => β i j - realOp x i j) := by
  funext i j
  unfold refR
  rw [refOp_up]
  simp only [up, EReal.coe_sub]

/-- A step keeps it. -/
theorem Tied.step {υ : Grid ℝ} {b r d x : Grid EReal} (h : Tied υ b r d x) :
    Tied υ b (kerR r) (kerD d r) (refX b x) := by
  rcases h with ⟨β, ρ, δ, rfl, rfl, rfl, rfl, hρ⟩ | ⟨rfl, rfl, rfl, i, j, hi⟩
  · have hr : refR (up β) (up fun i j => υ i j + δ i j) = up ρ := by
      rw [refR_up]
      exact congrArg up (funext fun i => funext fun j => (hρ i j).symm)
    by_cases h0 : ∀ i j, ρ i j = 0
    · refine .inl ⟨β, ρ, δ, rfl, ?_, ?_, ?_, hρ⟩
      · funext i j
        unfold kerR
        rw [kerOp_up]
        simp [up, realOp_zero ρ h0, h0]
      · funext i j
        unfold kerD
        simp [up, h0]
      · funext i j
        unfold refX
        rw [hr]
        simp [up, h0]
    · obtain ⟨t, ht⟩ := rate_real ρ h0
      refine .inl ⟨β, fun i j => ρ i j - t * realOp ρ i j, fun i j => δ i j + t * ρ i j, rfl, ?_, ?_, ?_, ?_⟩
      · funext i j
        unfold kerR
        rw [kerOp_up, ht]
        simp only [up, EReal.coe_sub, EReal.coe_mul]
      · funext i j
        unfold kerD
        rw [kerOp_up, ht]
        simp only [up, EReal.coe_add, EReal.coe_mul]
      · funext i j
        unfold refX
        rw [hr, refOp_up, ht]
        simp only [up, ← EReal.coe_add, ← EReal.coe_mul, add_assoc]
      · intro i j
        have e : (fun i j => υ i j + (δ i j + t * ρ i j)) = fun i j => (υ i j + δ i j) + t * ρ i j := by
          funext i j; ring
        rw [e, realOp_add_smul]
        show ρ i j - t * realOp ρ i j = _
        have := hρ i j
        linarith
  · have hk : rate (refR b (up υ)) (kerOp (refR b (up υ))) = 0 := rate_eq_zero hi hi.kerOp
    have hr : rate (refR b (up υ)) (refOp (refR b (up υ))) = 0 := rate_eq_zero hi hi.refOp
    have e : kerR (refR b (up υ)) = refR b (up υ) := by
      funext i j
      unfold kerR
      rw [hk, zero_mul, sub_zero]
    refine .inr ⟨?_, ?_, e, i, j, by rw [e]; exact hi⟩
    · funext i j
      unfold kerD
      rw [hk, zero_mul, add_zero]
    · funext i j
      unfold refX
      rw [hr, zero_mul, add_zero]

/-- It makes the squared distances agree. -/
theorem Tied.sq {υ : Grid ℝ} {b r d x : Grid EReal} (h : Tied υ b r d x) (i j : Fin 1024) :
    d i j * d i j = (up υ i j - x i j) * (up υ i j - x i j) := by
  rcases h with ⟨β, ρ, δ, rfl, rfl, rfl, rfl, hρ⟩ | ⟨rfl, rfl, rfl, _⟩
  · simp only [up, ← EReal.coe_sub, ← EReal.coe_mul]
    congr 1
    ring
  · simp only [up, ← EReal.coe_sub, sub_self, EReal.coe_zero]

/-- The starting values of real data are real. -/
theorem start_up (p : Grid ℝ) : ∃ υ : Grid ℝ, start (up p) = up υ :=
  ⟨fun i j => p i j * ((((i.val : ℝ) + 1) * (1 / 1025) * (1 - ((i.val : ℝ) + 1) * (1 / 1025)))
    * (((j.val : ℝ) + 1) * (1 / 1025) * (1 - ((j.val : ℝ) + 1) * (1 / 1025)))), by
    funext i j
    unfold start bump up
    rw [← EReal.coe_mul, ← EReal.coe_mul]⟩

/-- The two losses agree wherever the starting values are finite. -/
theorem kerLoss_eq_refLoss (p f : Grid EReal) (hp : ∀ i j, ¬ Inf (p i j)) : kerLoss p f = refLoss p f := by
  obtain ⟨p, rfl⟩ := exists_up p hp
  obtain ⟨υ, hυ⟩ := start_up p
  unfold kerLoss refLoss meanSq
  rw [hυ]
  have h := (tied_start υ f).step.step.step.step.step
  have e := h.sq
  exact congrArg (fun a => Ideal.div (total a) _) (funext fun i => funext fun j => e i j)

end Cert.Descent

end
-- ==== Proof.Square.lean ====
/- Vectors of 1024 by 1024 elements as squares of values: sums, reshapes, and the square moved one place along either
   axis with a line of zeros brought in, in the kernel's spelling (slice and concatenate) and in the reference's (pad
   and slice). -/
module

public import proofs.«01_k».proof.Proof.Grid
public import Idealize.ShloMosaic.Lib.Pipeline.Value
public import Idealize.ShloMosaic.Lib.ValueIdxCore
public import Idealize.ShloMosaic.PureOps.Ideal.Laws

@[expose] public section

noncomputable section

namespace Cert.Descent

open Idealize.ShloMosaic Idealize.ShloMosaic.ValueIdx

/-- The shape of the square. -/
abbrev Sq : Shape := ⟨2, ![1024, 1024]⟩

/-- A square of values as a vector. -/
def vec (g : Grid EReal) : Sq.Idx → EReal := fun i => g (i 0) (i 1)

/-- A vector as a square of values. -/
def grid (v : Sq.Idx → EReal) : Grid EReal := fun i j => v (ix2 i j)

theorem vec_grid (v : Sq.Idx → EReal) : vec (grid v) = v :=
  funext fun i => congrArg v (eq_ix2 i).symm

theorem sum_vec (g : Grid EReal) : ∑ i, vec g i = total g := by
  rw [sum_idx2]; rfl

/-- A reshape keeps the sum. -/
theorem sum_shapeCast {s t : Shape} (v : s.Idx → EReal) (h : s.ShapeCasts t) : ∑ i, shapeCast t v h i = ∑ i, v i :=
  Equiv.sum_comp (Shape.reshapeEquiv h) v

/-- Two reshapes are one. -/
theorem shapeCast_trans {s t u : Shape} {α : Type} (v : s.Idx → α) (h : s.ShapeCasts t) (h' : t.ShapeCasts u)
    (h'' : s.ShapeCasts u) : shapeCast u (shapeCast t v h) h' = shapeCast u v h'' :=
  funext fun i => congrArg v (Shape.reshapeEquiv_reshapeEquiv _ _ i)

/-! ### Slice and concatenate -/

theorem cat_north (g : Grid EReal) (h1 : Sq.Slices ![0, 0] ⟨2, ![1023, 1024]⟩)
    (h2 : Shape.Concatenates [⟨2, ![1, 1024]⟩, ⟨2, ![1023, 1024]⟩] Sq 0) :
    concatenate Sq 0 [⟨⟨2, ![1, 1024]⟩, broadcast ⟨2, ![1, 1024]⟩ (0 : EReal)⟩,
      ⟨⟨2, ![1023, 1024]⟩, extractStridedSlice ⟨2, ![1023, 1024]⟩ ![0, 0] (vec g) h1⟩] h2 = vec (north g) := by
  funext j
  have hj : (j 0).val < 1024 := (j 0).isLt
  by_cases h : (j 0).val = 0
  · refine Eq.trans ?_ (dif_pos h).symm
    exact concatenate_pair_apply_left (s₁ := ⟨2, ![1, 1024]⟩) (s₂ := ⟨2, ![1023, 1024]⟩) (0 : Fin 2) _ _ h2 j rfl (ix2 (n0 := 1) (n1 := 1024) ⟨0, Nat.one_pos⟩ (j 1))
      (fun b => match b with | ⟨0, _⟩ => h.symm | ⟨1, _⟩ => rfl)
  · refine Eq.trans ?_ (dif_neg h).symm
    refine (concatenate_pair_apply_right (s₁ := ⟨2, ![1, 1024]⟩) (s₂ := ⟨2, ![1023, 1024]⟩) (0 : Fin 2) _ _ h2 j rfl rfl (ix2 (n0 := 1023) (n1 := 1024) ⟨(j 0).val - 1, by omega⟩ (j 1))
      (fun b hb => match b with | ⟨0, _⟩ => absurd rfl hb | ⟨1, _⟩ => rfl)
      (show (j 0).val - 1 + 1 = (j 0).val by omega)).trans ?_
    exact extractStridedSlice_apply (s := Sq) (t := ⟨2, ![1023, 1024]⟩) _ _ h1 _ (ix2 (n0 := 1024) (n1 := 1024) ⟨(j 0).val - 1, by omega⟩ (j 1))
      (fun b => match b with | ⟨0, _⟩ => (Nat.zero_add _).symm | ⟨1, _⟩ => (Nat.zero_add _).symm)

theorem cat_south (g : Grid EReal) (h1 : Sq.Slices ![1, 0] ⟨2, ![1023, 1024]⟩)
    (h2 : Shape.Concatenates [⟨2, ![1023, 1024]⟩, ⟨2, ![1, 1024]⟩] Sq 0) :
    concatenate Sq 0 [⟨⟨2, ![1023, 1024]⟩, extractStridedSlice ⟨2, ![1023, 1024]⟩ ![1, 0] (vec g) h1⟩,
      ⟨⟨2, ![1, 1024]⟩, broadcast ⟨2, ![1, 1024]⟩ (0 : EReal)⟩] h2 = vec (south g) := by
  funext j
  have hj : (j 0).val < 1024 := (j 0).isLt
  by_cases h : (j 0).val + 1 < 1024
  · refine Eq.trans ?_ (dif_pos h).symm
    refine (concatenate_pair_apply_left (s₁ := ⟨2, ![1023, 1024]⟩) (s₂ := ⟨2, ![1, 1024]⟩) (0 : Fin 2) _ _ h2 j rfl (ix2 (n0 := 1023) (n1 := 1024) ⟨(j 0).val, by omega⟩ (j 1))
      (fun b => match b with | ⟨0, _⟩ => rfl | ⟨1, _⟩ => rfl)).trans ?_
    exact extractStridedSlice_apply (s := Sq) (t := ⟨2, ![1023, 1024]⟩) _ _ h1 _ (ix2 (n0 := 1024) (n1 := 1024) ⟨(j 0).val + 1, h⟩ (j 1))
      (fun b => match b with | ⟨0, _⟩ => Nat.add_comm _ _ | ⟨1, _⟩ => (Nat.zero_add _).symm)
  · refine Eq.trans ?_ (dif_neg h).symm
    exact concatenate_pair_apply_right (s₁ := ⟨2, ![1023, 1024]⟩) (s₂ := ⟨2, ![1, 1024]⟩) (0 : Fin 2) _ _ h2 j rfl rfl (ix2 (n0 := 1) (n1 := 1024) ⟨0, Nat.one_pos⟩ (j 1))
      (fun b hb => match b with | ⟨0, _⟩ => absurd rfl hb | ⟨1, _⟩ => rfl)
      (show 0 + 1023 = (j 0).val by omega)

theorem cat_west (g : Grid EReal) (h1 : Sq.Slices ![0, 0] ⟨2, ![1024, 1023]⟩)
    (h2 : Shape.Concatenates [⟨2, ![1024, 1]⟩, ⟨2, ![1024, 1023]⟩] Sq 1) :
    concatenate Sq 1 [⟨⟨2, ![1024, 1]⟩, broadcast ⟨2, ![1024, 1]⟩ (0 : EReal)⟩,
      ⟨⟨2, ![1024, 1023]⟩, extractStridedSlice ⟨2, ![1024, 1023]⟩ ![0, 0] (vec g) h1⟩] h2 = vec (west g) := by
  funext j
  have hj : (j 1).val < 1024 := (j 1).isLt
  by_cases h : (j 1).val = 0
  · refine Eq.trans ?_ (dif_pos h).symm
    exact concatenate_pair_apply_left (s₁ := ⟨2, ![1024, 1]⟩) (s₂ := ⟨2, ![1024, 1023]⟩) (1 : Fin 2) _ _ h2 j rfl (ix2 (n0 := 1024) (n1 := 1) (j 0) ⟨0, Nat.one_pos⟩)
      (fun b => match b with | ⟨0, _⟩ => rfl | ⟨1, _⟩ => h.symm)
  · refine Eq.trans ?_ (dif_neg h).symm
    refine (concatenate_pair_apply_right (s₁ := ⟨2, ![1024, 1]⟩) (s₂ := ⟨2, ![1024, 1023]⟩) (1 : Fin 2) _ _ h2 j rfl rfl (ix2 (n0 := 1024) (n1 := 1023) (j 0) ⟨(j 1).val - 1, by omega⟩)
      (fun b hb => match b with | ⟨0, _⟩ => rfl | ⟨1, _⟩ => absurd rfl hb)
      (show (j 1).val - 1 + 1 = (j 1).val by omega)).trans ?_
    exact extractStridedSlice_apply (s := Sq) (t := ⟨2, ![1024, 1023]⟩) _ _ h1 _ (ix2 (n0 := 1024) (n1 := 1024) (j 0) ⟨(j 1).val - 1, by omega⟩)
      (fun b => match b with | ⟨0, _⟩ => (Nat.zero_add _).symm | ⟨1, _⟩ => (Nat.zero_add _).symm)

theorem cat_east (g : Grid EReal) (h1 : Sq.Slices ![0, 1] ⟨2, ![1024, 1023]⟩)
    (h2 : Shape.Concatenates [⟨2, ![1024, 1023]⟩, ⟨2, ![1024, 1]⟩] Sq 1) :
    concatenate Sq 1 [⟨⟨2, ![1024, 1023]⟩, extractStridedSlice ⟨2, ![1024, 1023]⟩ ![0, 1] (vec g) h1⟩,
      ⟨⟨2, ![1024, 1]⟩, broadcast ⟨2, ![1024, 1]⟩ (0 : EReal)⟩] h2 = vec (east g) := by
  funext j
  have hj : (j 1).val < 1024 := (j 1).isLt
  by_cases h : (j 1).val + 1 < 1024
  · refine Eq.trans ?_ (dif_pos h).symm
    refine (concatenate_pair_apply_left (s₁ := ⟨2, ![1024, 1023]⟩) (s₂ := ⟨2, ![1024, 1]⟩) (1 : Fin 2) _ _ h2 j rfl (ix2 (n0 := 1024) (n1 := 1023) (j 0) ⟨(j 1).val, by omega⟩)
      (fun b => match b with | ⟨0, _⟩ => rfl | ⟨1, _⟩ => rfl)).trans ?_
    exact extractStridedSlice_apply (s := Sq) (t := ⟨2, ![1024, 1023]⟩) _ _ h1 _ (ix2 (n0 := 1024) (n1 := 1024) (j 0) ⟨(j 1).val + 1, h⟩)
      (fun b => match b with | ⟨0, _⟩ => (Nat.zero_add _).symm | ⟨1, _⟩ => Nat.add_comm _ _)
  · refine Eq.trans ?_ (dif_neg h).symm
    exact concatenate_pair_apply_right (s₁ := ⟨2, ![1024, 1023]⟩) (s₂ := ⟨2, ![1024, 1]⟩) (1 : Fin 2) _ _ h2 j rfl rfl (ix2 (n0 := 1024) (n1 := 1) (j 0) ⟨0, Nat.one_pos⟩)
      (fun b hb => match b with | ⟨0, _⟩ => rfl | ⟨1, _⟩ => absurd rfl hb)
      (show 0 + 1023 = (j 1).val by omega)

/-! ### Pad and slice -/

/-- The square with a frame of zeros read away from the frame. -/
theorem pad_inside (v : Sq.Idx → EReal) (z : (⟨0, ![]⟩ : Shape).Idx → EReal)
    (h : Sq.Pads ![1, 1] ![1, 1] ![0, 0] ⟨2, ![1026, 1026]⟩) (hu : 0 < (⟨0, ![]⟩ : Shape).numel)
    (j : (⟨2, ![1026, 1026]⟩ : Shape).Idx) (a b : Fin 1024) (ha : (j 0).val = a.val + 1) (hb : (j 1).val = b.val + 1) :
    pad ⟨2, ![1026, 1026]⟩ ![1, 1] ![1, 1] ![0, 0] v z h hu j = v (ix2 a b) := by
  unfold pad
  rw [dif_pos (fun c => match c with
    | ⟨0, _⟩ => by
        show 1 ≤ (j 0).val ∧ ((j 0).val - 1) % (0 + 1) = 0 ∧ ((j 0).val - 1) / (0 + 1) < 1024
        have := a.isLt; omega
    | ⟨1, _⟩ => by
        show 1 ≤ (j 1).val ∧ ((j 1).val - 1) % (0 + 1) = 0 ∧ ((j 1).val - 1) / (0 + 1) < 1024
        have := b.isLt; omega)]
  refine congrArg v (funext fun c => Fin.ext ?_)
  exact match c with
    | ⟨0, _⟩ => by
        show ((j 0).val - 1) / (0 + 1) = a.val
        omega
    | ⟨1, _⟩ => by
        show ((j 1).val - 1) / (0 + 1) = b.val
        omega

/-- The square with a frame of zeros read on the frame. -/
theorem pad_outside (v : Sq.Idx → EReal) (z : (⟨0, ![]⟩ : Shape).Idx → EReal) (hz : ∀ i, z i = 0)
    (h : Sq.Pads ![1, 1] ![1, 1] ![0, 0] ⟨2, ![1026, 1026]⟩) (hu : 0 < (⟨0, ![]⟩ : Shape).numel)
    (j : (⟨2, ![1026, 1026]⟩ : Shape).Idx)
    (hj : (j 0).val = 0 ∨ (j 0).val = 1025 ∨ (j 1).val = 0 ∨ (j 1).val = 1025) :
    pad ⟨2, ![1026, 1026]⟩ ![1, 1] ![1, 1] ![0, 0] v z h hu j = 0 := by
  unfold pad
  rw [dif_neg (fun hin => by
    have h0 := hin ⟨0, by decide⟩
    have h1 := hin ⟨1, by decide⟩
    have h0' : 1 ≤ (j 0).val ∧ ((j 0).val - 1) % (0 + 1) = 0 ∧ ((j 0).val - 1) / (0 + 1) < 1024 := h0
    have h1' : 1 ≤ (j 1).val ∧ ((j 1).val - 1) % (0 + 1) = 0 ∧ ((j 1).val - 1) / (0 + 1) < 1024 := h1
    omega)]
  exact hz _

section PadSlice

variable (g : Grid EReal) (z : (⟨0, ![]⟩ : Shape).Idx → EReal) (hz : ∀ i, z i = 0)
    (h : Sq.Pads ![1, 1] ![1, 1] ![0, 0] ⟨2, ![1026, 1026]⟩) (hu : 0 < (⟨0, ![]⟩ : Shape).numel)

include hz

theorem pad_north (hs : (⟨2, ![1026, 1026]⟩ : Shape).Slices ![0, 1] Sq) :
    extractStridedSlice Sq ![0, 1] (pad ⟨2, ![1026, 1026]⟩ ![1, 1] ![1, 1] ![0, 0] (vec g) z h hu) hs = vec (north g) := by
  funext j
  have h0 : (j 0).val < 1024 := (j 0).isLt
  have h1 : (j 1).val < 1024 := (j 1).isLt
  refine (extractStridedSlice_apply (s := ⟨2, ![1026, 1026]⟩) (t := Sq) _ _ hs j (ix2 (n0 := 1026) (n1 := 1026) ⟨(j 0).val, by omega⟩ ⟨(j 1).val + 1, by omega⟩)
    (fun a => match a with | ⟨0, _⟩ => (Nat.zero_add _).symm | ⟨1, _⟩ => Nat.add_comm _ _)).trans ?_
  by_cases hj : (j 0).val = 0
  · refine Eq.trans ?_ (dif_pos hj).symm
    exact pad_outside _ z hz h hu _ (.inl hj)
  · refine Eq.trans ?_ (dif_neg hj).symm
    exact pad_inside _ z h hu _ ⟨(j 0).val - 1, by omega⟩ (j 1) (show (j 0).val = (j 0).val - 1 + 1 by omega) rfl

theorem pad_south (hs : (⟨2, ![1026, 1026]⟩ : Shape).Slices ![2, 1] Sq) :
    extractStridedSlice Sq ![2, 1] (pad ⟨2, ![1026, 1026]⟩ ![1, 1] ![1, 1] ![0, 0] (vec g) z h hu) hs = vec (south g) := by
  funext j
  have h0 : (j 0).val < 1024 := (j 0).isLt
  have h1 : (j 1).val < 1024 := (j 1).isLt
  refine (extractStridedSlice_apply (s := ⟨2, ![1026, 1026]⟩) (t := Sq) _ _ hs j (ix2 (n0 := 1026) (n1 := 1026) ⟨(j 0).val + 2, by omega⟩ ⟨(j 1).val + 1, by omega⟩)
    (fun a => match a with | ⟨0, _⟩ => Nat.add_comm _ _ | ⟨1, _⟩ => Nat.add_comm _ _)).trans ?_
  by_cases hj : (j 0).val + 1 < 1024
  · refine Eq.trans ?_ (dif_pos hj).symm
    exact pad_inside _ z h hu _ ⟨(j 0).val + 1, hj⟩ (j 1) rfl rfl
  · refine Eq.trans ?_ (dif_neg hj).symm
    exact pad_outside _ z hz h hu _ (.inr (.inl (show (j 0).val + 2 = 1025 by omega)))

theorem pad_west (hs : (⟨2, ![1026, 1026]⟩ : Shape).Slices ![1, 0] Sq) :
    extractStridedSlice Sq ![1, 0] (pad ⟨2, ![1026, 1026]⟩ ![1, 1] ![1, 1] ![0, 0] (vec g) z h hu) hs = vec (west g) := by
  funext j
  have h0 : (j 0).val < 1024 := (j 0).isLt
  have h1 : (j 1).val < 1024 := (j 1).isLt
  refine (extractStridedSlice_apply (s := ⟨2, ![1026, 1026]⟩) (t := Sq) _ _ hs j (ix2 (n0 := 1026) (n1 := 1026) ⟨(j 0).val + 1, by omega⟩ ⟨(j 1).val, by omega⟩)
    (fun a => match a with | ⟨0, _⟩ => Nat.add_comm _ _ | ⟨1, _⟩ => (Nat.zero_add _).symm)).trans ?_
  by_cases hj : (j 1).val = 0
  · refine Eq.trans ?_ (dif_pos hj).symm
    exact pad_outside _ z hz h hu _ (.inr (.inr (.inl hj)))
  · refine Eq.trans ?_ (dif_neg hj).symm
    exact pad_inside _ z h hu _ (j 0) ⟨(j 1).val - 1, by omega⟩ rfl (show (j 1).val = (j 1).val - 1 + 1 by omega)

theorem pad_east (hs : (⟨2, ![1026, 1026]⟩ : Shape).Slices ![1, 2] Sq) :
    extractStridedSlice Sq ![1, 2] (pad ⟨2, ![1026, 1026]⟩ ![1, 1] ![1, 1] ![0, 0] (vec g) z h hu) hs = vec (east g) := by
  funext j
  have h0 : (j 0).val < 1024 := (j 0).isLt
  have h1 : (j 1).val < 1024 := (j 1).isLt
  refine (extractStridedSlice_apply (s := ⟨2, ![1026, 1026]⟩) (t := Sq) _ _ hs j (ix2 (n0 := 1026) (n1 := 1026) ⟨(j 0).val + 1, by omega⟩ ⟨(j 1).val + 2, by omega⟩)
    (fun a => match a with | ⟨0, _⟩ => Nat.add_comm _ _ | ⟨1, _⟩ => Nat.add_comm _ _)).trans ?_
  by_cases hj : (j 1).val + 1 < 1024
  · refine Eq.trans ?_ (dif_pos hj).symm
    exact pad_inside _ z h hu _ (j 0) ⟨(j 1).val + 1, hj⟩ rfl rfl
  · refine Eq.trans ?_ (dif_neg hj).symm
    exact pad_outside _ z hz h hu _ (.inr (.inr (.inr (show (j 1).val + 2 = 1025 by omega))))

end PadSlice

end Cert.Descent

end
-- ==== Proof.Words.lean ====
/- The float words both programs spell, as the real numbers they are. -/
module

public import Idealize.ShloMosaic.PureOps.Ideal

@[expose] public section

noncomputable section

namespace Cert.Descent

open Idealize.ShloMosaic

theorem word_zero : Ideal.ofBits .f32 0x00000000#32 = 0 := by simp [Ideal.ofBits, Ideal.ieee]

theorem word_one : Ideal.ofBits .f32 0x3F800000#32 = ((1 : ℝ) : EReal) := by
  simp [Ideal.ofBits, Ideal.ieee, -EReal.coe_mul]; norm_num

theorem word_four : Ideal.ofBits .f32 0x40800000#32 = ((4 : ℝ) : EReal) := by
  simp [Ideal.ofBits, Ideal.ieee, -EReal.coe_mul]; norm_num

/-- `1025`, the number of intervals. -/
theorem word_1025 : Ideal.ofBits .f32 0x44802000#32 = ((1025 : ℝ) : EReal) := by
  simp [Ideal.ofBits, Ideal.ieee, -EReal.coe_mul]; norm_num

/-- `1025²`, the reciprocal of the squared spacing. -/
theorem word_inv : Ideal.ofBits .f32 0x49804008#32 = ((1050625 : ℝ) : EReal) := by
  simp [Ideal.ofBits, Ideal.ieee, -EReal.coe_mul]; norm_num

/-- `1024²`, the number of elements. -/
theorem word_count : Ideal.ofBits .f32 0x49800000#32 = ((1048576 : ℝ) : EReal) := by
  simp [Ideal.ofBits, Ideal.ieee, -EReal.coe_mul]; norm_num

end Cert.Descent

end
-- ==== Proof.KernelVec.lean ====
/- What the kernel's body computes from its two blocks: its vector operations fold into the operator, the step lengths
   and the recurrence of Grid.lean, read on squares of values. -/
module

public import proofs.«01_k».proof.Proof.Square
public import proofs.«01_k».proof.Proof.Words
public import proofs.«01_k».proof.Proof.Gen.KernelIdeal.Skeleton
public import Idealize.ShloMosaic.PureOps.IdealRules

@[expose] public section

set_option synthInstance.maxSize 4096

noncomputable section

namespace Cert.Descent

open Idealize.ShloMosaic Idealize.ShloMosaic.ValueIdx Cert.KernelIdeal Cert.KernelIdeal.Gen

/-- The kernel's vectors of one square. -/
abbrev KV : Type := FVec Ideal S1024x1024 .f32

/-- The kernel's operator. -/
def kvOp (a : KV) : KV :=
  have zr : FVec Ideal S1x1024 .f32 := broadcast S1x1024 (Scalar.ofBits .f32 0x00000000#32)
  have zc : FVec Ideal S1024x1 .f32 := broadcast S1024x1 (Scalar.ofBits .f32 0x00000000#32)
  mulf (subf (subf (subf (subf
      (mulf (broadcast S1024x1024 (Named.named κ "c0" 0x40800002#32)) a)
      (concatenate S1024x1024 0 [⟨S1x1024, zr⟩, ⟨S1023x1024, extractStridedSlice S1023x1024 ![0, 0] a slices_S1024x1024_o0_0_S1023x1024⟩]
        concatenates_S1x1024_S1023x1024_S1024x1024_d0))
      (concatenate S1024x1024 0 [⟨S1023x1024, extractStridedSlice S1023x1024 ![1, 0] a slices_S1024x1024_o1_0_S1023x1024⟩, ⟨S1x1024, zr⟩]
        concatenates_S1023x1024_S1x1024_S1024x1024_d0))
      (concatenate S1024x1024 1 [⟨S1024x1, zc⟩, ⟨S1024x1023, extractStridedSlice S1024x1023 ![0, 0] a slices_S1024x1024_o0_0_S1024x1023⟩]
        concatenates_S1024x1_S1024x1023_S1024x1024_d1))
      (concatenate S1024x1024 1 [⟨S1024x1023, extractStridedSlice S1024x1023 ![0, 1] a slices_S1024x1024_o0_1_S1024x1023⟩, ⟨S1024x1, zc⟩]
        concatenates_S1024x1023_S1024x1_S1024x1024_d1))
    (broadcast S1024x1024 (Scalar.ofBits .f32 0x49804008#32))

/-- The kernel's sum of a square. -/
def kvSum (a : KV) : Ideal .f32 :=
  extractAt ![0, 0, 0]
    (shapeCast S1x1x1 (multiReduction .add [1, 2] S1 (shapeCast S1x1024x1024 a shapeCasts_S1024x1024_S1x1024x1024)
      0x00000000#32 reduces_S1x1024x1024_S1 (.inl rfl) rfl) shapeCasts_S1_S1x1x1) inpos_S1x1x1_p0_0_0

/-- The kernel's step length. -/
def kvRate (r : KV) : Ideal .f32 := Scalar.divf (kvSum (mulf r r)) (kvSum (mulf r (kvOp r)))
/-- The kernel's next residual. -/
def kvR (r : KV) : KV := subf r (mulf (broadcast S1024x1024 (kvRate r)) (kvOp r))
/-- The kernel's next distance. -/
def kvD (d r : KV) : KV := addf d (mulf (broadcast S1024x1024 (kvRate r)) r)

/-- One coordinate of the bump: `x (1 - x)` at `x = (position + 1) h`. -/
def kvBump (k : IVec S1024x1024 32) : KV :=
  have x : KV := mulf (addf (sitofp .f32 k) (broadcast S1024x1024 (Scalar.ofBits .f32 0x3F800000#32)))
    (broadcast S1024x1024 (Named.named κ "h" 0x3A7FC010#32))
  mulf x (subf (broadcast S1024x1024 (Scalar.ofBits .f32 0x3F800000#32)) x)

/-- The starting point. -/
def kvStart (x0 : KV) : KV :=
  mulf (shapeCast S1024x1024 x0 shapeCasts_S1024x1024_S1024x1024)
    (mulf (kvBump (iota .tc S1024x1024 32 [0] iota_S1024x1024_d0_w32)) (kvBump (iota .tc S1024x1024 32 [1] iota_S1024x1024_d1_w32)))

/-- The first residual. -/
def kvR0 (x0 x1 : KV) : KV :=
  subf (shapeCast S1024x1024 x1 shapeCasts_S1024x1024_S1024x1024) (kvOp (kvStart x0))

/-- The loss after five steps from the first residual. -/
def kvLoss (r0 : KV) : Ideal .f32 :=
  have r1 := kvR r0
  have r2 := kvR r1
  have r3 := kvR r2
  have r4 := kvR r3
  have d := kvD (kvD (kvD (kvD (kvD (broadcast S1024x1024 (Scalar.ofBits .f32 0x00000000#32)) r0) r1) r2) r3) r4
  Scalar.divf (kvSum (mulf d d)) (Scalar.ofBits .f32 0x49800000#32)

/-! ### Read on squares -/

theorem kv_zero : (Scalar.ofBits .f32 0x00000000#32 : Ideal .f32) = (0 : EReal) := word_zero
theorem kv_c0 : (Named.named κ "c0" 0x40800002#32 : Ideal .f32) = ((4202501 / 1050625 : ℝ) : EReal) :=
  IdealRules.named_const.ideal_named_scalar _ _ _ _ rfl
theorem kv_h : (Named.named κ "h" 0x3A7FC010#32 : Ideal .f32) = ((1 / 1025 : ℝ) : EReal) :=
  IdealRules.named_const.ideal_named_scalar _ _ _ _ rfl
theorem kv_inv : (Scalar.ofBits .f32 0x49804008#32 : Ideal .f32) = ((1050625 : ℝ) : EReal) := word_inv
theorem kv_one : (Scalar.ofBits .f32 0x3F800000#32 : Ideal .f32) = ((1 : ℝ) : EReal) := word_one
theorem kv_count : (Scalar.ofBits .f32 0x49800000#32 : Ideal .f32) = ((1048576 : ℝ) : EReal) := word_count

theorem kvOp_vec (g : Grid EReal) : kvOp (vec g) = vec (kerOp g) := by
  unfold kvOp
  dsimp only
  rw [kv_zero, kv_c0, kv_inv]
  have hn := cat_north g slices_S1024x1024_o0_0_S1023x1024 concatenates_S1x1024_S1023x1024_S1024x1024_d0
  have hs := cat_south g slices_S1024x1024_o1_0_S1023x1024 concatenates_S1023x1024_S1x1024_S1024x1024_d0
  have hw := cat_west g slices_S1024x1024_o0_0_S1024x1023 concatenates_S1024x1_S1024x1023_S1024x1024_d1
  have he := cat_east g slices_S1024x1024_o0_1_S1024x1023 concatenates_S1024x1023_S1024x1_S1024x1024_d1
  erw [hn, hs, hw, he]
  rfl

theorem kvSum_eq (a : KV) : kvSum a = ∑ i, a i := by
  have h : ∀ j, (multiReduction .add [1, 2] S1 (shapeCast S1x1024x1024 a shapeCasts_S1024x1024_S1x1024x1024)
      0x00000000#32 reduces_S1x1024x1024_S1 (.inl rfl) rfl : FVec Ideal S1 .f32) j = ∑ i, a i := fun j =>
    (Ideal.multiReduction_add_total _ _ reduces_S1x1024x1024_S1 (fun b => match b with | ⟨0, _⟩ => rfl) _ _ j).trans
      (sum_shapeCast a shapeCasts_S1024x1024_S1x1024x1024)
  exact h _

theorem kvRate_vec (r : Grid EReal) : kvRate (vec r) = rate r (kerOp r) := by
  unfold kvRate
  rw [kvSum_eq, kvSum_eq, kvOp_vec]
  unfold rate
  rw [← sum_vec, ← sum_vec]
  rfl

theorem kvR_vec (r : Grid EReal) : kvR (vec r) = vec (kerR r) := by
  unfold kvR
  rw [kvRate_vec, kvOp_vec]
  rfl

theorem kvD_vec (d r : Grid EReal) : kvD (vec d) (vec r) = vec (kerD d r) := by
  unfold kvD
  rw [kvRate_vec]
  rfl

/-- A position as a real number. -/
theorem position (i : Fin 1024) : ((BitVec.ofNat 32 i.val).toInt : ℝ) = (i.val : ℝ) := by
  have h : (BitVec.ofNat 32 i.val).toInt = (i.val : ℤ) := by
    have := i.isLt
    rw [BitVec.toInt_eq_toNat_of_lt (by rw [BitVec.toNat_ofNat]; omega), BitVec.toNat_ofNat]
    omega
  rw [h]; simp

theorem bump_eq (i : Fin 1024) :
    ((((BitVec.ofNat 32 i.val).toInt : ℝ) : EReal) + ((1 : ℝ) : EReal)) * ((1 / 1025 : ℝ) : EReal)
      * (((1 : ℝ) : EReal) - ((((BitVec.ofNat 32 i.val).toInt : ℝ) : EReal) + ((1 : ℝ) : EReal)) * ((1 / 1025 : ℝ) : EReal))
      = bump i := by
  rw [position, ← EReal.coe_add, ← EReal.coe_mul, ← EReal.coe_sub, ← EReal.coe_mul]
  rfl

theorem kvStart_vec (p : Grid EReal) : kvStart (vec p) = vec (start p) := by
  funext j
  unfold kvStart kvBump
  dsimp only
  rw [kv_one, kv_h, shapeCast_self]
  have e0 := iota_single_apply .tc S1024x1024 32 0 iota_S1024x1024_d0_w32 j
  have e1 := iota_single_apply .tc S1024x1024 32 1 iota_S1024x1024_d1_w32 j
  have b0 := bump_eq (j 0)
  have b1 := bump_eq (j 1)
  refine congrArg (fun z => p (j 0) (j 1) * z) (congrArg₂ (· * ·) (Eq.trans ?_ b0) (Eq.trans ?_ b1))
  · rw [← e0]; rfl
  · rw [← e1]; rfl

theorem kvR0_vec (p f : Grid EReal) : kvR0 (vec p) (vec f) = vec (kerR0 (start p) f) := by
  unfold kvR0
  rw [kvStart_vec, kvOp_vec, shapeCast_self]
  rfl

/-- The kernel's loss of two squares. -/
theorem kvLoss_vec (p f : Grid EReal) : kvLoss (kvR0 (vec p) (vec f)) = kerLoss p f := by
  rw [kvR0_vec]
  unfold kvLoss
  dsimp only
  rw [kv_zero, kv_count, show (broadcast S1024x1024 (0 : EReal) : KV) = vec (fun _ _ => 0) from rfl]
  simp only [kvR_vec, kvD_vec]
  rw [kvSum_eq]
  unfold kerLoss meanSq
  rw [← sum_vec]
  rfl

/-- The body's payloads compose to it. -/
theorem payloads_eq (x0 x1 : KV) :
    (have c0 : Ideal .f32 := Scalar.ofBits .f32 0x00000000#32
     have ci : Ideal .f32 := Scalar.ofBits .f32 0x49804008#32
     have v42 := k0_pay2 x0 x1
     have v75 := k0_pay6 v42 k0_pay3 c0
     have v78 := k0_pay7 v42 c0
     have v94 := k0_pay8 v42 c0
     have v113 := k0_pay11 v78 v94 ci
     have v131 := k0_pay12 v78 v94 ci
     have v145 := k0_pay14 v75 v78 v94 ci
     have v146 := k0_pay15 v78 v94 ci
     k0_pay1 (k0_pay19 v113 v131 v145 v146) (k0_pay20 v113 v131 v146) (k0_pay22 v113 v131 v146)
       (k0_pay23 v113 v131 v146) (k0_pay24 v113 v131 v146))
    = kvLoss (kvR0 x0 x1) := rfl

end Cert.Descent

end
-- ==== Proof.KernelRun.lean ====
/-
  The kernel's run, read: its result is the loss of the two argument squares.
-/
module

public import proofs.«01_k».proof.Proof.KernelVec
public import proofs.«01_k».proof.Proof.Gen.KernelIdeal.Frame
public import Idealize.ShloMosaic.Lib.Pipeline.Value
public import Idealize.ShloMosaic.Lib.StableHlo.Run
public import Idealize.ShloMosaic.Lib.Tactic
public import Idealize.ShloMosaic.Lib.Claim
public import Idealize.ShloMosaic.Lib.Pipeline.ValueKit

@[expose] public section

noncomputable section

namespace Cert.Descent

open Idealize.ShloMosaic Idealize.ShloMosaic.TcCoe Idealize.SL.Sem
open Idealize.ShloMosaic.Pipeline (Dat)
open Cert.KernelIdeal Cert.KernelIdeal.Gen

theorem origin : (![0, 0] : Fin 2 → Nat) = fun _ => 0 := funext fun a => by fin_cases a <;> rfl

/-- What the body leaves in the one-element result buffer. -/
theorem out_eq (c : Dev nD) (a0 : Memref sig .tc .vmem S1024x1024 .f32) (h0 : a0.IsWhole)
    (a1 : Memref sig .tc .vmem S1024x1024 .f32) (h1 : a1.IsWhole) (a2 : Memref sig .tc .smem S1x1 .f32) (h2 : a2.IsWhole)
    (x0 x1 : Vec Ideal S1024x1024 .f32) : out0_A_2 (F := Ideal) c a0 h0 a1 h1 a2 h2 x0 x1 = fun _ => kvLoss (kvR0 x0 x1) := by
  unfold out0_A_2
  rw [View.read_writes_eq_canon _ _ _ (cover0_A_2 (F := Ideal) c a0 h0 a1 h1 a2 h2 x0 x1)]
  unfold kernelRun0_A
  dsimp only
  sl_unfold_words
  simp only [View.readAt_eq_ld, h0.read_unread, h1.read_unread, View.ld_unit_zero (S := S1024x1024) origin]
  rw [View.canon_unit_zero (S := S1x1) origin]
  funext _
  exact payloads_eq x0 x1

variable (m : (ℓ : Loc nD τ sig) → Buf (Elt Ideal) ℓ) (ρ : Dev nD → PrngReg)

/-- The square a reshaped argument holds. -/
abbrev square (v : (⟨S1x1x1024x1024, .f32⟩ : BufTy).Contents (Elt Ideal)) : Grid EReal :=
  grid (shapeCast S1024x1024 v shapeCasts_S1x1x1024x1024_S1024x1024)

theorem entry0 (c : Dev nD) : V (F := Ideal) m c main_v0
    = shapeCast S1024x1024 (m ((c : Thread nD τ).loc main_arg0)) shapeCasts_S1x1x1024x1024_S1024x1024 := by
  entry_read
  rfl

theorem entry1 (c : Dev nD) : V (F := Ideal) m c main_v1
    = shapeCast S1024x1024 (m ((c : Thread nD τ).loc main_arg1)) shapeCasts_S1x1x1024x1024_S1024x1024 := by
  entry_read
  rfl

theorem block0 (c : Dev nD) (t : Fin cfg0.N) : (iblk (F := Ideal) m c 0 t : Vec Ideal S1024x1024 .f32) = V (F := Ideal) m c main_v0 := by
  have hz : (fun a => win0_0.index t a * main_v0.ty.shape.size a) = fun _ => 0 := funext fun a => Nat.zero_mul _
  exact Memref.read_access_unit_zero (Elt Ideal) main_v0 hz (fun a => by rw [congrFun hz a]; simp) _

theorem block1 (c : Dev nD) (t : Fin cfg0.N) : (iblk (F := Ideal) m c 1 t : Vec Ideal S1024x1024 .f32) = V (F := Ideal) m c main_v1 := by
  have hz : (fun a => win0_1.index t a * main_v1.ty.shape.size a) = fun _ => 0 := funext fun a => Nat.zero_mul _
  exact Memref.read_access_unit_zero (Elt Ideal) main_v1 hz (fun a => by rw [congrFun hz a]; simp) _

/-- The kernel's loss of the arguments on core `c`. -/
def kernelLoss (c : Dev nD) : EReal :=
  kerLoss (square (m ((c : Thread nD τ).loc main_arg0))) (square (m ((c : Thread nD τ).loc main_arg1)))

theorem outs_eq (c : Dev nD) (t : Fin cfg0.N) : outsAt0 (F := Ideal) m c t = fun _ => kernelLoss m c := by
  unfold outsAt0
  rw [out_eq, block0, block1, entry0, entry1]
  funext _
  unfold kernelLoss
  rw [← kvLoss_vec, vec_grid, vec_grid]

theorem final_eq (c : Dev nD) : (dats (F := Ideal) m 0 c).arrAt 2 cfg0.N = fun _ => kernelLoss m c := by
  refine (dats (F := Ideal) m 0 c).arrAt_eq_of_covers 2 _ (by decide +kernel) fun t hf y => ?_
  rw [after0_2, outs_eq]
  rfl

/-- The kernel's run: its result is the loss, its arguments unchanged. -/
theorem kernel_run : θ_run defs (onTc (τ := τ) (main (F := Ideal))) ⟨m, fun _ => 0, ρ⟩ fun r => ∀ c : Dev nD,
    r.2.mem ((c.tc : Thread nD τ).loc main_v3) = (fun _ => kernelLoss m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine θ_run_mono (θ_run_and (unchanged (F := Ideal) m ρ) (run_main (F := Ideal) m ρ)) ?_
  intro r hr c
  refine ⟨?_, hr.1 c⟩
  refine ((hr.2 c).2 main_v3 (Pipeline.mem_restRefs_of main_v3 rfl (by decide))).trans ?_
  unfold Pipeline.afterTail₀
  simp only [hostOps1, List.flatten_cons, List.flatten_nil, List.append_nil]
  simp only [StableHlo.after_cons, StableHlo.after_nil]
  rw [StableHlo.reshape_result]
  have h := Pipeline.withArrays_arr (τ := τ) spec0 (by decide) c (V0 (F := Ideal) m c) (fun w => (dats (F := Ideal) m 0 c).arrAt w cfg0.N) 2
  have h' := h.trans (final_eq m c)
  funext i
  exact (congrFun (congrArg (fun z => shapeCast S_ z shapeCasts_S1x1_S_) h') i).trans rfl

end Cert.Descent

end
-- ==== Proof.ReferenceVec.lean ====
/- What the reference computes from its two arguments: its vector operations fold into the operator and the steepest
   descent of Grid.lean, its flat vectors read as squares of values. -/
module

public import proofs.«01_k».proof.Proof.Square
public import proofs.«01_k».proof.Proof.Words
public import proofs.«01_k».proof.Proof.KernelVec
public import proofs.«01_k».proof.Proof.Gen.ReferenceIdeal.Read

@[expose] public section

set_option synthInstance.maxSize 4096

noncomputable section

namespace Cert.Descent

open Idealize.ShloMosaic Idealize.ShloMosaic.ValueIdx Cert.ReferenceIdeal Cert.ReferenceIdeal.Gen

/-- The reference's flat vectors, its squares and its scalars. -/
abbrev RV : Type := FVec Ideal S1048576 .f32
abbrev RQ : Type := FVec Ideal S1024x1024 .f32
abbrev RS : Type := FVec Ideal S_ .f32

/-- The spacing. -/
def rvH : RS := Host.divf (constant (F := Ideal) S_ .f32 0x3F800000#32) (constant (F := Ideal) S_ .f32 0x44802000#32)

/-- A square padded by one zero on each side. -/
def rvPad (a : RQ) : FVec Ideal S1026x1026 .f32 :=
  pad S1026x1026 ![1, 1] ![1, 1] ![0, 0] a (sitofp (F := Ideal) .f32 (constantI S_ 32 0#32)) pads_S1024x1024_S1026x1026_110_110 h_S_

/-- The operator on a square. -/
def rqOp (a : RQ) : RQ :=
  addf (Host.divf (subf (subf (subf (subf
      (mulf (broadcastInDim S1024x1024 ![] bcast_S_S1024x1024 (constant (F := Ideal) S_ .f32 0x40800000#32)) a)
      (extractStridedSlice S1024x1024 ![0, 1] (rvPad a) slices_S1026x1026_S1024x1024_0_1))
      (extractStridedSlice S1024x1024 ![2, 1] (rvPad a) slices_S1026x1026_S1024x1024_2_1))
      (extractStridedSlice S1024x1024 ![1, 0] (rvPad a) slices_S1026x1026_S1024x1024_1_0))
      (extractStridedSlice S1024x1024 ![1, 2] (rvPad a) slices_S1026x1026_S1024x1024_1_2))
    (broadcastInDim S1024x1024 ![] bcast_S_S1024x1024 (mulf rvH rvH))) a

/-- The operator on a flat vector. -/
def rvOp (a : RV) : RV :=
  shapeCast S1048576 (rqOp (shapeCast S1024x1024 a shapeCasts_S1048576_S1024x1024)) shapeCasts_S1024x1024_S1048576

/-- The sum of a flat vector. -/
def rvSum (a : RV) : RS := Host.reduceAdd a (constant (F := Ideal) S_ .f32 0x00000000#32) reducesTo_S1048576_S_d0 h_S_

/-- One step of the descent. -/
def rvStep (b x : RV) : RV :=
  addf x (mulf (broadcastInDim S1048576 ![] bcast_S_S1048576
    (Host.divf (rvSum (mulf (subf b (rvOp x)) (subf b (rvOp x)))) (rvSum (mulf (subf b (rvOp x)) (rvOp (subf b (rvOp x)))))))
    (subf b (rvOp x)))

/-- The bump along one axis. -/
def rvBump : FVec Ideal S1024 .f32 :=
  have one : FVec Ideal S1024 .f32 := broadcastInDim S1024 ![] bcast_S_S1024 (constant (F := Ideal) S_ .f32 0x3F800000#32)
  have x : FVec Ideal S1024 .f32 :=
    mulf (addf one (sitofp (F := Ideal) .f32 (iotaInDim S1024 32 0))) (broadcastInDim S1024 ![] bcast_S_S1024 rvH)
  mulf x (subf one x)

/-- The start square. -/
def rvStart (p : RQ) : RQ :=
  addf (mulf p (mulf
    (broadcastInDim S1024x1024 ![0, 1] bcast_S1024x1_S1024x1024_0_1 (broadcastInDim S1024x1 ![0] bcast_S1024_S1024x1_0 rvBump))
    (broadcastInDim S1024x1024 ![0, 1] bcast_S1x1024_S1024x1024_0_1 (broadcastInDim S1x1024 ![1] bcast_S1024_S1x1024_1 rvBump))))
    (broadcastInDim S1024x1024 ![] bcast_S_S1024x1024 (constant (F := Ideal) S_ .f32 0x00000000#32))

/-- The loss. -/
def rvLoss (u b : RV) : RS :=
  have d := subf u (rvStep b (rvStep b (rvStep b (rvStep b (rvStep b u)))))
  Host.divf (rvSum (mulf d d)) (constant (F := Ideal) S_ .f32 0x49800000#32)

set_option maxRecDepth 16384 in
/-- The reference's result is that loss. -/
theorem reference_eq (x0 x1 : (⟨S1x1x1024x1024, .f32⟩ : BufTy).Contents (Elt Ideal)) :
    Cert.ReferenceIdeal.Read.val_main_v248 (F := Ideal) x0 x1
      = rvLoss (shapeCast S1048576 (rvStart (shapeCast S1024x1024 x0 shapeCasts_S1x1x1024x1024_S1024x1024)) shapeCasts_S1024x1024_S1048576)
          (shapeCast S1048576 x1 shapeCasts_S1x1x1024x1024_S1048576) := rfl

/-! ### Read on squares -/

/-- A square as a flat vector. -/
def flat (g : Grid EReal) : RV := shapeCast S1048576 (vec g) shapeCasts_S1024x1024_S1048576

theorem flat_square (g : Grid EReal) : shapeCast S1024x1024 (flat g) shapeCasts_S1048576_S1024x1024 = vec g :=
  (shapeCast_trans (vec g) _ _ (rfl : S1024x1024.ShapeCasts S1024x1024)).trans (shapeCast_self _ _)

theorem rvH_eq : rvH = fun _ => ((1 / 1025 : ℝ) : EReal) := by
  funext _
  refine (congrArg₂ Ideal.div word_one word_1025).trans ?_
  rw [Ideal.div_coe (by norm_num), ← EReal.coe_mul, one_mul]

theorem pad_zero (i : S_.Idx) : (sitofp (F := Ideal) .f32 (constantI S_ 32 0#32) : RS) i = (0 : EReal) := by
  show (((0#32 : BitVec 32).toInt : ℝ) : EReal) = 0
  simp

theorem rqOp_vec (g : Grid EReal) : rqOp (vec g) = vec (refOp g) := by
  unfold rqOp rvPad
  rw [rvH_eq]
  have hn := pad_north g _ pad_zero pads_S1024x1024_S1026x1026_110_110 h_S_ slices_S1026x1026_S1024x1024_0_1
  have hs := pad_south g _ pad_zero pads_S1024x1024_S1026x1026_110_110 h_S_ slices_S1026x1026_S1024x1024_2_1
  have hw := pad_west g _ pad_zero pads_S1024x1024_S1026x1026_110_110 h_S_ slices_S1026x1026_S1024x1024_1_0
  have he := pad_east g _ pad_zero pads_S1024x1024_S1026x1026_110_110 h_S_ slices_S1026x1026_S1024x1024_1_2
  erw [hn, hs, hw, he]
  funext j
  show Ideal.div (Ideal.ofBits .f32 0x40800000#32 * g (j 0) (j 1) - north g (j 0) (j 1) - south g (j 0) (j 1)
    - west g (j 0) (j 1) - east g (j 0) (j 1)) _ + _ = _
  rw [word_four]
  rfl

theorem rvOp_flat (g : Grid EReal) : rvOp (flat g) = flat (refOp g) := by
  unfold rvOp
  rw [flat_square, rqOp_vec]
  rfl

theorem rvSum_eq (a : RV) : rvSum a = fun _ => ∑ i, a i := by
  funext j
  refine (Ideal.hostReduceAdd_total _ (fun b => b.elim0) _ _ _).trans ?_
  exact (congrArg (· + _) word_zero).trans (zero_add _)

theorem rvSum_flat (g : Grid EReal) : rvSum (flat g) = fun _ => total g := by
  rw [rvSum_eq]
  funext _
  exact (sum_shapeCast _ _).trans (sum_vec g)

theorem rvStep_flat (b x : Grid EReal) : rvStep (flat b) (flat x) = flat (refX b x) := by
  unfold rvStep
  rw [rvOp_flat, show (subf (flat b) (flat (refOp x)) : RV) = flat (refR b x) from rfl, rvOp_flat,
    show (mulf (flat (refR b x)) (flat (refR b x)) : RV) = flat (fun i j => refR b x i j * refR b x i j) from rfl,
    show (mulf (flat (refR b x)) (flat (refOp (refR b x))) : RV) = flat (fun i j => refR b x i j * refOp (refR b x) i j) from rfl,
    rvSum_flat, rvSum_flat]
  rfl

theorem rvBump_eq (k : S1024.Idx) : rvBump k = bump (k 0) := by
  unfold rvBump
  rw [rvH_eq]
  refine Eq.trans ?_ (bump_eq (k 0))
  rw [← word_one]
  show (_ + _) * _ * (_ - (_ + _) * _) = _
  rw [add_comm]
  rfl

theorem rvStart_vec (p : Grid EReal) : rvStart (vec p) = vec (start p) := by
  funext j
  refine (congrArg (_ + ·) word_zero).trans ((add_zero _).trans ?_)
  exact congrArg (fun z => p (j 0) (j 1) * z) (congrArg₂ (· * ·) (rvBump_eq _) (rvBump_eq _))

/-- The reference's loss of two squares. -/
theorem rvLoss_flat (p f : Grid EReal) : rvLoss (flat (start p)) (flat f) = fun _ => refLoss p f := by
  unfold rvLoss
  dsimp only
  simp only [rvStep_flat]
  rw [show (subf (flat (start p)) (flat (refX f (refX f (refX f (refX f (refX f (start p))))))) : RV)
      = flat (fun i j => start p i j - refX5 (start p) f i j) from rfl,
    show ∀ g : Grid EReal, (mulf (flat g) (flat g) : RV) = flat (fun i j => g i j * g i j) from fun _ => rfl, rvSum_flat]
  funext _
  exact congrArg (Ideal.div _) word_count

/-- The reference's result is the loss of its argument squares. -/
theorem reference_loss (x0 x1 : (⟨S1x1x1024x1024, .f32⟩ : BufTy).Contents (Elt Ideal)) :
    Cert.ReferenceIdeal.Read.val_main_v248 (F := Ideal) x0 x1
      = fun _ => refLoss (grid (shapeCast S1024x1024 x0 shapeCasts_S1x1x1024x1024_S1024x1024))
          (grid (shapeCast S1024x1024 x1 shapeCasts_S1x1x1024x1024_S1024x1024)) := by
  rw [reference_eq, ← rvLoss_flat]
  unfold flat
  rw [← rvStart_vec, vec_grid, vec_grid, shapeCast_trans _ shapeCasts_S1x1x1024x1024_S1024x1024 shapeCasts_S1024x1024_S1048576 shapeCasts_S1x1x1024x1024_S1048576]

end Cert.Descent

end
-- ==== Proof.ReferenceRun.lean ====
/- The reference's run, read: its result is the loss of its argument squares, its arguments are unchanged, and no counter
   is left raised. -/
module

public import proofs.«01_k».proof.Proof.ReferenceVec
public import proofs.«01_k».proof.Proof.Gen.ReferenceIdeal.Run
public import Idealize.ShloMosaic.Lib.StableHlo.Run
public import Idealize.ShloMosaic.Lib.Quiescent
public import Idealize.ShloMosaic.Lib.Claim

@[expose] public section

noncomputable section

namespace Cert.Descent

open Idealize.ShloMosaic Idealize.ShloMosaic.TcCoe Idealize.SL.Sem
open Cert.ReferenceIdeal Cert.ReferenceIdeal.Gen

variable (m : (ℓ : Loc nD τ sig) → Buf (Elt Ideal) ℓ) (ρ : Dev nD → PrngReg)

/-- The reference's loss of the arguments on core `c`. -/
def referenceLoss (c : Dev nD) : EReal :=
  refLoss (grid (shapeCast S1024x1024 (m ((c : Thread nD τ).loc main_arg0)) shapeCasts_S1x1x1024x1024_S1024x1024))
    (grid (shapeCast S1024x1024 (m ((c : Thread nD τ).loc main_arg1)) shapeCasts_S1x1x1024x1024_S1024x1024))

theorem reference_run : θ_run defs (onTc (τ := τ) (main (F := Ideal))) ⟨m, fun _ => 0, ρ⟩ fun r => ∀ c : Dev nD,
    r.2.mem ((c.tc : Thread nD τ).loc main_v248) = (fun _ => referenceLoss m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine θ_run_mono (Cert.ReferenceIdeal.Value.run (F := Ideal) m ρ) fun r hr c => ?_
  obtain ⟨h, h'⟩ := hr c
  refine ⟨h.trans ((Cert.ReferenceIdeal.Read.val_main_v248_eq (F := Ideal) (StableHlo.launchContents m c)).trans ?_), h'⟩
  rw [reference_loss, StableHlo.launchContents_devRef, StableHlo.launchContents_devRef]
  rfl

/-- The reference's frame. -/
theorem reference_frame : θ_run defs (onTc (τ := τ) (main (F := Ideal))) ⟨m, fun _ => 0, ρ⟩ fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2))
    ∧ r.2.sem = fun _ => 0 :=
  θ_run_mono (Cert.ReferenceIdeal.Value.run (F := Ideal) m ρ) fun r hr =>
    ⟨fun c => (hr c).2, sem_eq_zero_of_no_sems rfl r.2⟩

end Cert.Descent

end
-- ==== Proof.Precondition.lean ====
/- The precondition, read: every value of `pre`, as a square, is a real number. -/
module

public import proofs.«01_k».proof.Proof.Infinite
public import proofs.«01_k».proof.Proof.Square
public import proofs.«01_k».proof.Proof.Gen.Pre_pre_finite
public import Idealize.ShloMosaic.PureOps.Ideal.Laws

@[expose] public section

noncomputable section

namespace Cert.Descent

open Idealize.ShloMosaic Cert.Pre_pre_finite

theorem word_top : Ideal.ofBits .f32 0x7F800000#32 = (⊤ : EReal) := by simp [Ideal.ofBits, Ideal.ieee]

theorem not_inf_of_abs_lt (x : EReal) (h : max x (-x) < ⊤) : ¬ Inf x := by
  rintro (rfl | rfl)
  · simp at h
  · simp at h

/-- Under the precondition no value of the square is infinite. -/
theorem finite_of_pre (p f a : FVec Ideal S1x1x1024x1024 .f32) (h : Cert.Pre_pre_finite.fn (F := Ideal) p f a = fun _ => 1#1)
    (hc : S1x1x1024x1024.ShapeCasts Sq) (i j : Fin 1024) : ¬ Inf (grid (shapeCast Sq p hc) i j) := by
  have hk := congrFun h (Shape.reshapeEquiv hc (ValueIdx.ix2 i j))
  have hk' : BitVec.ofBool (decide (max (grid (shapeCast Sq p hc) i j) (-(grid (shapeCast Sq p hc) i j))
      < Ideal.ofBits .f32 0x7F800000#32)) = 1#1 := hk
  rw [word_top] at hk'
  refine not_inf_of_abs_lt _ ?_
  by_contra hn
  rw [decide_eq_false hn] at hk'
  exact absurd hk' (by decide)

end Cert.Descent

end
-- ==== Proof.Needed.lean ====
/- Why the precondition is there: with `pre` infinite everywhere every step length is zero, so the kernel's loss is
   zero, while the reference subtracts one infinity from another and its loss is infinite. -/
module

public import proofs.«01_k».proof.Proof.Infinite

@[expose] public section

noncomputable section

namespace Cert.Descent

open Idealize.ShloMosaic

/-- The bump is positive inside the square. -/
theorem bump_pos (i : Fin 1024) : ∃ t : ℝ, 0 < t ∧ bump i = (t : EReal) := by
  have hi : (i.val : ℝ) + 1 ≤ 1024 := by exact_mod_cast i.isLt
  have h0 : (0 : ℝ) ≤ i.val := Nat.cast_nonneg _
  exact ⟨_, mul_pos (by positivity) (by linarith), rfl⟩

theorem start_top : start (fun _ _ => ⊤) = fun _ _ => ⊤ := by
  funext i j
  obtain ⟨s, hs, es⟩ := bump_pos i
  obtain ⟨t, ht, et⟩ := bump_pos j
  unfold start
  rw [es, et, ← EReal.coe_mul]
  exact EReal.top_mul_coe_of_pos (mul_pos hs ht)

/-- The kernel's residual stays where it is when it is infinite at a place. -/
theorem kerR_inf {r : Grid EReal} {i j : Fin 1024} (h : Inf (r i j)) : kerR r = r := by
  funext a b
  unfold kerR
  rw [rate_eq_zero h h.kerOp, zero_mul, sub_zero]

theorem kerD_inf {d r : Grid EReal} {i j : Fin 1024} (h : Inf (r i j)) : kerD d r = d := by
  funext a b
  unfold kerD
  rw [rate_eq_zero h h.kerOp, zero_mul, add_zero]

/-- The reference's point stays where it is when it is infinite at a place. -/
theorem refX_inf {b x : Grid EReal} {i j : Fin 1024} (h : Inf (x i j)) (hb : b i j = 0) : refX b x = x := by
  have hr : Inf (refR b x i j) := by
    unfold refR
    rw [hb, sub_eq_add_neg, zero_add]
    rcases h.refOp with e | e <;> rw [e] <;> simp [Inf]
  funext k l
  unfold refX
  rw [rate_eq_zero hr hr.refOp, zero_mul, add_zero]

/-- Without the precondition the two losses differ. -/
theorem kerLoss_ne_refLoss : kerLoss (fun _ _ => ⊤) (fun _ _ => 0) ≠ refLoss (fun _ _ => ⊤) (fun _ _ => 0) := by
  have hx : Inf ((fun _ _ => ⊤ : Grid EReal) 0 0) := .inl rfl
  have h0 : Inf (kerR0 (fun _ _ => ⊤) (fun _ _ => 0) 0 0) := by
    unfold kerR0
    rw [sub_eq_add_neg, zero_add]
    rcases Inf.kerOp (a := fun _ _ => ⊤) (i := 0) (j := 0) hx with e | e <;> rw [e] <;> simp [Inf]
  have hk : kerLoss (fun _ _ => ⊤) (fun _ _ => 0) = 0 := by
    unfold kerLoss kerD5
    rw [start_top]
    simp only [kerR_inf h0, kerD_inf h0]
    unfold meanSq total
    rw [Ideal.div_coe (by norm_num)]
    simp
  have hr : Inf (refLoss (fun _ _ => ⊤) (fun _ _ => 0)) := by
    unfold refLoss refX5
    rw [start_top]
    simp only [refX_inf (b := fun _ _ => 0) (x := fun _ _ => ⊤) (i := 0) (j := 0) hx rfl]
    unfold meanSq
    rw [Ideal.div_coe (by norm_num)]
    refine Inf.mul_pos (Inf.total (i := 0) (j := 0) ?_) (by norm_num)
    have : Inf ((⊤ : EReal) - ⊤) := Inf.sub (.inl rfl) _
    exact this.mul this
  rw [hk]
  intro e
  rw [← e] at hr
  rcases hr with h | h <;> simp at h

end Cert.Descent

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_pre_finite
public import Idealize.ShloMosaic.Adequacy
public import Idealize.ShloMosaic.Init
public import proofs.«01_k».proof.Proof.Gen.ReferenceIdeal.Read
public import proofs.«01_k».proof.Proof.Gen.ReferenceIdeal.Run
public import proofs.«01_k».proof.Proof.Equation
public import proofs.«01_k».proof.Proof.KernelRun
public import proofs.«01_k».proof.Proof.ReferenceRun
public import proofs.«01_k».proof.Proof.Precondition
public import proofs.«01_k».proof.Proof.Needed

@[expose] public section

noncomputable section

namespace Cert.Proof

open Idealize.ShloMosaic Idealize.SL.Sem Cert.Descent

/-- Each named constant is the word it replaces, rounded. -/
theorem preserves : Cert.preserves_Kernel_KernelIdeal :=
  ⟨IdealRules.named_const.statement Cert.KernelIdeal.κ "h" .f32 0x3A7FC010#32 ((1 / 1025 : ℝ) : EReal) rfl,
    IdealRules.named_const.statement Cert.KernelIdeal.κ "c0" .f32 0x40800002#32 ((4202501 / 1050625 : ℝ) : EReal) rfl⟩

/-- The kernel and the reference return one loss. -/
theorem algebraic : Cert.algebraic_KernelIdeal_ReferenceIdeal_pre_pre_finite := by
  intro m g m' g' hpre hagree
  refine ⟨fun c => fun _ => kernelLoss m c, kernel_run m g, ?_⟩
  refine θ_run_mono (reference_run m' g') fun r hr c => ⟨(hr c).1.trans ?_, (hr c).2⟩
  funext _
  unfold referenceLoss kernelLoss
  rw [(hagree c).1, (hagree c).2.1]
  exact (kerLoss_eq_refLoss _ _ fun i j => finite_of_pre _ _ _ (hpre c) _ i j).symm

theorem claim : Cert.Claim :=
  ⟨Cert.Kernel.Gen.facts, Cert.KernelIdeal.Gen.facts, Cert.ReferenceIdeal.Gen.facts, Cert.Pre_pre_finite.Gen.facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    preserves,
    algebraic⟩

end Cert.Proof

end
